-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x768 : Shape := ⟨3, ![1, 2048, 768]⟩
abbrev S768x8 : Shape := ⟨2, ![768, 8]⟩
abbrev S8 : Shape := ⟨1, ![8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S2048x768 : Shape := ⟨2, ![2048, 768]⟩
abbrev S1x8 : Shape := ⟨2, ![1, 8]⟩
abbrev S8x1x3072 : Shape := ⟨3, ![8, 1, 3072]⟩
abbrev S1x768x1024 : Shape := ⟨3, ![1, 768, 1024]⟩
abbrev S1x1x1024 : Shape := ⟨3, ![1, 1, 1024]⟩
abbrev S1x1024x768 : Shape := ⟨3, ![1, 1024, 768]⟩
abbrev S2048x8 : Shape := ⟨2, ![2048, 8]⟩
abbrev S2048 : Shape := ⟨1, ![2048]⟩
abbrev S2048x1 : Shape := ⟨2, ![2048, 1]⟩
abbrev S768x1024 : Shape := ⟨2, ![768, 1024]⟩
abbrev S2048x1024 : Shape := ⟨2, ![2048, 1024]⟩
abbrev S1024 : Shape := ⟨1, ![1024]⟩
abbrev S1x1024 : Shape := ⟨2, ![1, 1024]⟩
abbrev S1024x768 : Shape := ⟨2, ![1024, 768]⟩

abbrev nBuf : Space → Nat
  | .hbm => 11
  | .vmem => 13
  | .smem => 0
  | _ => 0

abbrev bufTy : (tb : Table) → Fin (tcTables nBuf tb) → BufTy
  | .hbm, ⟨0, _⟩ => ⟨S1x2048x768, .f32⟩
  | .hbm, ⟨1, _⟩ => ⟨S768x8, .f32⟩
  | .hbm, ⟨2, _⟩ => ⟨S8, .f32⟩
  | .hbm, ⟨3, _⟩ => ⟨S8x768x3072, .f32⟩
  | .hbm, ⟨4, _⟩ => ⟨S8x3072, .f32⟩
  | .hbm, ⟨5, _⟩ => ⟨S8x3072x768, .f32⟩
  | .hbm, ⟨6, _⟩ => ⟨S8x768, .f32⟩
  | .hbm, ⟨7, _⟩ => ⟨S2048x768, .f32⟩
  | .hbm, ⟨8, _⟩ => ⟨S1x8, .f32⟩
  | .hbm, ⟨9, _⟩ => ⟨S8x1x3072, .f32⟩
  | .hbm, ⟨10, _⟩ => ⟨S2048x768, .f32⟩
  | .local _ .vmem, ⟨0, _⟩ => ⟨S2048x768, .f32⟩
  | .local _ .vmem, ⟨1, _⟩ => ⟨S768x8, .f32⟩
  | .local _ .vmem, ⟨2, _⟩ => ⟨S1x8, .f32⟩
  | .local _ .vmem, ⟨3, _⟩ => ⟨S1x768x1024, .f32⟩
  | .local _ .vmem, ⟨4, _⟩ => ⟨S1x768x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x768, .f32⟩
  | .local _ .vmem, ⟨8, _⟩ => ⟨S1x1024x768, .f32⟩
  | .local _ .vmem, ⟨9, _⟩ => ⟨S8x768, .f32⟩
  | .local _ .vmem, ⟨10, _⟩ => ⟨S2048x768, .f32⟩
  | .local _ .vmem, ⟨11, _⟩ => ⟨S2048x8, .f32⟩
  | .local _ .vmem, ⟨12, _⟩ => ⟨S2048x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S1x2048x768 : Shape := ⟨3, ![1, 2048, 768]⟩
abbrev S768x8 : Shape := ⟨2, ![768, 8]⟩
abbrev S8 : Shape := ⟨1, ![8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S2048x768 : Shape := ⟨2, ![2048, 768]⟩
abbrev S2048x8 : Shape := ⟨2, ![2048, 8]⟩
abbrev S1x8 : Shape := ⟨2, ![1, 8]⟩
abbrev S_ : Shape := ⟨0, ![]⟩
abbrev S2048 : Shape := ⟨1, ![2048]⟩
abbrev S2048x1 : Shape := ⟨2, ![2048, 1]⟩
abbrev S8x3072x2048 : Shape := ⟨3, ![8, 3072, 2048]⟩
abbrev S8x2048x3072 : Shape := ⟨3, ![8, 2048, 3072]⟩
abbrev S8x1x3072 : Shape := ⟨3, ![8, 1, 3072]⟩
abbrev S8x2048x768 : Shape := ⟨3, ![8, 2048, 768]⟩
abbrev S8x1x768 : Shape := ⟨3, ![8, 1, 768]⟩
abbrev S2048x2 : Shape := ⟨2, ![2048, 2]⟩

abbrev nBuf : Space → Nat
  | .hbm => 246
  | .vmem => 0
  | .smem => 0
  | _ => 0

abbrev hbmTy0_0 (i : Nat) : BufTy := match i % 128 with
  | 0 => ⟨S1x2048x768, .f32⟩
  | 1 => ⟨S768x8, .f32⟩
  | 2 => ⟨S8, .f32⟩
  | 3 => ⟨S8x768x3072, .f32⟩
  | 4 => ⟨S8x3072, .f32⟩
  | 5 => ⟨S8x3072x768, .f32⟩
  | 6 => ⟨S8x768, .f32⟩
  | 7 => ⟨S2048x768, .f32⟩
  | 8 => ⟨S2048x8, .f32⟩
  | 9 => ⟨S1x8, .f32⟩
  | 10 => ⟨S2048x8, .f32⟩
  | 11 => ⟨S2048x8, .f32⟩
  | 12 => ⟨S_, .f32⟩
  | 13 => ⟨S2048, .f32⟩
  | 14 => ⟨S_, .f32⟩
  | 15 => ⟨S2048, .f32⟩
  | 16 => ⟨S2048, .f32⟩
  | 17 => ⟨S2048x1, .f32⟩
  | 18 => ⟨S2048x8, .f32⟩
  | 19 => ⟨S2048x8, .f32⟩
  | 20 => ⟨S2048x8, .f32⟩
  | 21 => ⟨S_, .f32⟩
  | 22 => ⟨S2048, .f32⟩
  | 23 => ⟨S2048x1, .f32⟩
  | 24 => ⟨S2048x8, .f32⟩
  | 25 => ⟨S2048x8, .f32⟩
  | 26 => ⟨S2048x8, .f32⟩
  | 27 => ⟨S2048x8, .i32⟩
  | 28 => ⟨S_, .f32⟩
  | 29 => ⟨S2048, .f32⟩
  | 30 => ⟨S2048x1, .f32⟩
  | 31 => ⟨S2048x8, .f32⟩
  | 32 => ⟨S2048x8, .f32⟩
  | 33 => ⟨S8x3072x2048, .f32⟩
  | 34 => ⟨S8x2048x3072, .f32⟩
  | 35 => ⟨S8x1x3072, .f32⟩
  | 36 => ⟨S8x2048x3072, .f32⟩
  | 37 => ⟨S8x2048x3072, .f32⟩
  | 38 => ⟨S_, .f32⟩
  | 39 => ⟨S8x2048x3072, .f32⟩
  | 40 => ⟨S8x2048x3072, .f32⟩
  | 41 => ⟨S8x2048x3072, .f32⟩
  | 42 => ⟨S_, .f32⟩
  | 43 => ⟨S8x2048x3072, .f32⟩
  | 44 => ⟨S8x2048x3072, .f32⟩
  | 45 => ⟨S8x2048x3072, .f32⟩
  | 46 => ⟨S8x2048x3072, .f32⟩
  | 47 => ⟨S8x2048x768, .f32⟩
  | 48 => ⟨S8x1x768, .f32⟩
  | 49 => ⟨S8x2048x768, .f32⟩
  | 50 => ⟨S8x2048x768, .f32⟩
  | 51 => ⟨S2048, .i32⟩
  | 52 => ⟨S_, .f32⟩
  | 53 => ⟨S2048x768, .f32⟩
  | 54 => ⟨S2048x1, .i32⟩
  | 55 => ⟨S2048, .i32⟩
  | 56 => ⟨S_, .i32⟩
  | 57 => ⟨S2048, .i32⟩
  | 58 => ⟨S2048, .i1⟩
  | 59 => ⟨S_, .i32⟩
  | 60 => ⟨S2048, .i32⟩
  | 61 => ⟨S2048, .i32⟩
  | 62 => ⟨S2048, .i32⟩
  | 63 => ⟨S_, .i32⟩
  | 64 => ⟨S2048, .i32⟩
  | 65 => ⟨S2048, .i1⟩
  | 66 => ⟨S_, .i32⟩
  | 67 => ⟨S2048, .i32⟩
  | 68 => ⟨S2048, .i32⟩
  | 69 => ⟨S2048, .i32⟩
  | 70 => ⟨S2048x1, .i32⟩
  | 71 => ⟨S2048x1, .i32⟩
  | 72 => ⟨S2048x2, .i32⟩
  | 73 => ⟨S2048x768, .f32⟩
  | 74 => ⟨S2048x1, .f32⟩
  | 75 => ⟨S2048x768, .f32⟩
  | 76 => ⟨S2048x768, .f32⟩
  | 77 => ⟨S2048x768, .f32⟩
  | 78 => ⟨S2048x1, .i32⟩
  | 79 => ⟨S2048, .i32⟩
  | 80 => ⟨S_, .i32⟩
  | 81 => ⟨S2048, .i32⟩
  | 82 => ⟨S2048, .i1⟩
  | 83 => ⟨S_, .i32⟩
  | 84 => ⟨S2048, .i32⟩
  | 85 => ⟨S2048, .i32⟩
  | 86 => ⟨S2048, .i32⟩
  | 87 => ⟨S_, .i32⟩
  | 88 => ⟨S2048, .i32⟩
  | 89 => ⟨S2048, .i1⟩
  | 90 => ⟨S_, .i32⟩
  | 91 => ⟨S2048, .i32⟩
  | 92 => ⟨S2048, .i32⟩
  | 93 => ⟨S2048, .i32⟩
  | 94 => ⟨S2048x1, .i32⟩
  | 95 => ⟨S2048x1, .i32⟩
  | 96 => ⟨S2048x2, .i32⟩
  | 97 => ⟨S2048x768, .f32⟩
  | 98 => ⟨S2048x1, .f32⟩
  | 99 => ⟨S2048x768, .f32⟩
  | 100 => ⟨S2048x768, .f32⟩
  | 101 => ⟨S2048x768, .f32⟩
  | 102 => ⟨S2048x1, .i32⟩
  | 103 => ⟨S2048, .i32⟩
  | 104 => ⟨S_, .i32⟩
  | 105 => ⟨S2048, .i32⟩
  | 106 => ⟨S2048, .i1⟩
  | 107 => ⟨S_, .i32⟩
  | 108 => ⟨S2048, .i32⟩
  | 109 => ⟨S2048, .i32⟩
  | 110 => ⟨S2048, .i32⟩
  | 111 => ⟨S_, .i32⟩
  | 112 => ⟨S2048, .i32⟩
  | 113 => ⟨S2048, .i1⟩
  | 114 => ⟨S_, .i32⟩
  | 115 => ⟨S2048, .i32⟩
  | 116 => ⟨S2048, .i32⟩
  | 117 => ⟨S2048, .i32⟩
  | 118 => ⟨S2048x1, .i32⟩
  | 119 => ⟨S2048x1, .i32⟩
  | 120 => ⟨S2048x2, .i32⟩
  | 121 => ⟨S2048x768, .f32⟩
  | 122 => ⟨S2048x1, .f32⟩
  | 123 => ⟨S2048x768, .f32⟩
  | 124 => ⟨S2048x768, .f32⟩
  | 125 => ⟨S2048x768, .f32⟩
  | 126 => ⟨S2048x1, .i32⟩
  | 127 => ⟨S2048, .i32⟩
  | _ => ⟨S1x2048x768, .f32⟩

abbrev hbmTy0_1 (i : Nat) : BufTy := match i % 128 with
  | 0 => ⟨S_, .i32⟩
  | 1 => ⟨S2048, .i32⟩
  | 2 => ⟨S2048, .i1⟩
  | 3 => ⟨S_, .i32⟩
  | 4 => ⟨S2048, .i32⟩
  | 5 => ⟨S2048, .i32⟩
  | 6 => ⟨S2048, .i32⟩
  | 7 => ⟨S_, .i32⟩
  | 8 => ⟨S2048, .i32⟩
  | 9 => ⟨S2048, .i1⟩
  | 10 => ⟨S_, .i32⟩
  | 11 => ⟨S2048, .i32⟩
  | 12 => ⟨S2048, .i32⟩
  | 13 => ⟨S2048, .i32⟩
  | 14 => ⟨S2048x1, .i32⟩
  | 15 => ⟨S2048x1, .i32⟩
  | 16 => ⟨S2048x2, .i32⟩
  | 17 => ⟨S2048x768, .f32⟩
  | 18 => ⟨S2048x1, .f32⟩
  | 19 => ⟨S2048x768, .f32⟩
  | 20 => ⟨S2048x768, .f32⟩
  | 21 => ⟨S2048x768, .f32⟩
  | 22 => ⟨S2048x1, .i32⟩
  | 23 => ⟨S2048, .i32⟩
  | 24 => ⟨S_, .i32⟩
  | 25 => ⟨S2048, .i32⟩
  | 26 => ⟨S2048, .i1⟩
  | 27 => ⟨S_, .i32⟩
  | 28 => ⟨S2048, .i32⟩
  | 29 => ⟨S2048, .i32⟩
  | 30 => ⟨S2048, .i32⟩
  | 31 => ⟨S_, .i32⟩
  | 32 => ⟨S2048, .i32⟩
  | 33 => ⟨S2048, .i1⟩
  | 34 => ⟨S_, .i32⟩
  | 35 => ⟨S2048, .i32⟩
  | 36 => ⟨S2048, .i32⟩
  | 37 => ⟨S2048, .i32⟩
  | 38 => ⟨S2048x1, .i32⟩
  | 39 => ⟨S2048x1, .i32⟩
  | 40 => ⟨S2048x2, .i32⟩
  | 41 => ⟨S2048x768, .f32⟩
  | 42 => ⟨S2048x1, .f32⟩
  | 43 => ⟨S2048x768, .f32⟩
  | 44 => ⟨S2048x768, .f32⟩
  | 45 => ⟨S2048x768, .f32⟩
  | 46 => ⟨S2048x1, .i32⟩
  | 47 => ⟨S2048, .i32⟩
  | 48 => ⟨S_, .i32⟩
  | 49 => ⟨S2048, .i32⟩
  | 50 => ⟨S2048, .i1⟩
  | 51 => ⟨S_, .i32⟩
  | 52 => ⟨S2048, .i32⟩
  | 53 => ⟨S2048, .i32⟩
  | 54 => ⟨S2048, .i32⟩
  | 55 => ⟨S_, .i32⟩
  | 56 => ⟨S2048, .i32⟩
  | 57 => ⟨S2048, .i1⟩
  | 58 => ⟨S_, .i32⟩
  | 59 => ⟨S2048, .i32⟩
  | 60 => ⟨S2048, .i32⟩
  | 61 => ⟨S2048, .i32⟩
  | 62 => ⟨S2048x1, .i32⟩
  | 63 => ⟨S2048x1, .i32⟩
  | 64 => ⟨S2048x2, .i32⟩
  | 65 => ⟨S2048x768, .f32⟩
  | 66 => ⟨S2048x1, .f32⟩
  | 67 => ⟨S2048x768, .f32⟩
  | 68 => ⟨S2048x768, .f32⟩
  | 69 => ⟨S2048x768, .f32⟩
  | 70 => ⟨S2048x1, .i32⟩
  | 71 => ⟨S2048, .i32⟩
  | 72 => ⟨S_, .i32⟩
  | 73 => ⟨S2048, .i32⟩
  | 74 => ⟨S2048, .i1⟩
  | 75 => ⟨S_, .i32⟩
  | 76 => ⟨S2048, .i32⟩
  | 77 => ⟨S2048, .i32⟩
  | 78 => ⟨S2048, .i32⟩
  | 79 => ⟨S_, .i32⟩
  | 80 => ⟨S2048, .i32⟩
  | 81 => ⟨S2048, .i1⟩
  | 82 => ⟨S_, .i32⟩
  | 83 => ⟨S2048, .i32⟩
  | 84 => ⟨S2048, .i32⟩
  | 85 => ⟨S2048, .i32⟩
  | 86 => ⟨S2048x1, .i32⟩
  | 87 => ⟨S2048x1, .i32⟩
  | 88 => ⟨S2048x2, .i32⟩
  | 89 => ⟨S2048x768, .f32⟩
  | 90 => ⟨S2048x1, .f32⟩
  | 91 => ⟨S2048x768, .f32⟩
  | 92 => ⟨S2048x768, .f32⟩
  | 93 => ⟨S2048x768, .f32⟩
  | 94 => ⟨S2048x1, .i32⟩
  | 95 => ⟨S2048, .i32⟩
  | 96 => ⟨S_, .i32⟩
  | 97 => ⟨S2048, .i32⟩
  | 98 => ⟨S2048, .i1⟩
  | 99 => ⟨S_, .i32⟩
  | 100 => ⟨S2048, .i32⟩
  | 101 => ⟨S2048, .i32⟩
  | 102 => ⟨S2048, .i32⟩
  | 103 => ⟨S_, .i32⟩
  | 104 => ⟨S2048, .i32⟩
  | 105 => ⟨S2048, .i1⟩
  | 106 => ⟨S_, .i32⟩
  | 107 => ⟨S2048, .i32⟩
  | 108 => ⟨S2048, .i32⟩
  | 109 => ⟨S2048, .i32⟩
  | 110 => ⟨S2048x1, .i32⟩
  | 111 => ⟨S2048x1, .i32⟩
  | 112 => ⟨S2048x2, .i32⟩
  | 113 => ⟨S2048x768, .f32⟩
  | 114 => ⟨S2048x1, .f32⟩
  | 115 => ⟨S2048x768, .f32⟩
  | 116 => ⟨S2048x768, .f32⟩
  | 117 => ⟨S2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_values : Ref sig .tc := ⟨.hbm, 26, rfl⟩
abbrev main_indices : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_7 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_9 : Ref sig .tc := ⟨.hbm, 80, rfl⟩
abbrev main_v60 : Ref sig .tc := ⟨.hbm, 81, rfl⟩
abbrev main_v61 : Ref sig .tc := ⟨.hbm, 82, rfl⟩
abbrev main_c_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_11 : Ref sig .tc := ⟨.hbm, 87, rfl⟩
abbrev main_v65 : Ref sig .tc := ⟨.hbm, 88, rfl⟩
abbrev main_v66 : Ref sig .tc := ⟨.hbm, 89, rfl⟩
abbrev main_c_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c_13 : Ref sig .tc := ⟨.hbm, 104, rfl⟩
abbrev main_v80 : Ref sig .tc := ⟨.hbm, 105, rfl⟩
abbrev main_v81 : Ref sig .tc := ⟨.hbm, 106, rfl⟩
abbrev main_c_14 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_c_15 : Ref sig .tc := ⟨.hbm, 111, rfl⟩
abbrev main_v85 : Ref sig .tc := ⟨.hbm, 112, rfl⟩
abbrev main_v86 : Ref sig .tc := ⟨.hbm, 113, rfl⟩
abbrev main_c_16 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_c_17 : Ref sig .tc := ⟨.hbm, 128, rfl⟩
abbrev main_v100 : Ref sig .tc := ⟨.hbm, 129, rfl⟩
abbrev main_v101 : Ref sig .tc := ⟨.hbm, 130, rfl⟩
abbrev main_c_18 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_c_19 : Ref sig .tc := ⟨.hbm, 135, rfl⟩
abbrev main_v105 : Ref sig .tc := ⟨.hbm, 136, rfl⟩
abbrev main_v106 : Ref sig .tc := ⟨.hbm, 137, rfl⟩
abbrev main_c_20 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_c_21 : Ref sig .tc := ⟨.hbm, 152, rfl⟩
abbrev main_v120 : Ref sig .tc := ⟨.hbm, 153, rfl⟩
abbrev main_v121 : Ref sig .tc := ⟨.hbm, 154, rfl⟩
abbrev main_c_22 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_c_23 : Ref sig .tc := ⟨.hbm, 159, rfl⟩
abbrev main_v125 : Ref sig .tc := ⟨.hbm, 160, rfl⟩
abbrev main_v126 : Ref sig .tc := ⟨.hbm, 161, rfl⟩
abbrev main_c_24 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_c_25 : Ref sig .tc := ⟨.hbm, 176, rfl⟩
abbrev main_v140 : Ref sig .tc := ⟨.hbm, 177, rfl⟩
abbrev main_v141 : Ref sig .tc := ⟨.hbm, 178, rfl⟩
abbrev main_c_26 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_c_27 : Ref sig .tc := ⟨.hbm, 183, rfl⟩
abbrev main_v145 : Ref sig .tc := ⟨.hbm, 184, rfl⟩
abbrev main_v146 : Ref sig .tc := ⟨.hbm, 185, rfl⟩
abbrev main_c_28 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_c_29 : Ref sig .tc := ⟨.hbm, 200, rfl⟩
abbrev main_v160 : Ref sig .tc := ⟨.hbm, 201, rfl⟩
abbrev main_v161 : Ref sig .tc := ⟨.hbm, 202, rfl⟩
abbrev main_c_30 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_c_31 : Ref sig .tc := ⟨.hbm, 207, rfl⟩
abbrev main_v165 : Ref sig .tc := ⟨.hbm, 208, rfl⟩
abbrev main_v166 : Ref sig .tc := ⟨.hbm, 209, rfl⟩
abbrev main_c_32 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_c_33 : Ref sig .tc := ⟨.hbm, 224, rfl⟩
abbrev main_v180 : Ref sig .tc := ⟨.hbm, 225, rfl⟩
abbrev main_v181 : Ref sig .tc := ⟨.hbm, 226, rfl⟩
abbrev main_c_34 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_c_35 : Ref sig .tc := ⟨.hbm, 231, rfl⟩
abbrev main_v185 : Ref sig .tc := ⟨.hbm, 232, rfl⟩
abbrev main_v186 : Ref sig .tc := ⟨.hbm, 233, rfl⟩
abbrev main_c_36 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩

abbrev nD : Nat := 1
abbrev τ : Topo := Topo.v7x

variable {F : FTy → Type} [FloatOps F]
-- ==== Proof.Cases.lean ====
/- What one run of the kernel's body leaves in the output block and in the two carried scratches, as a function of
   the blocks it reads, for each of the body's three courses: the first grid point (A), a point inside an expert (B),
   the first point of a later expert (C). -/
module

public import proofs.«01_k».proof.Proof.Gen.KernelIdeal.Value
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Cases

open Cert.KernelIdeal Cert.KernelIdeal.Gen

variable {F : FTy → Type} [FloatOps F]

/-- Offset zero on each of two axes. -/
theorem off2 : (![0, 0] : Fin 2 → Nat) = fun _ => 0 := funext fun a => by fin_cases a <;> rfl
/-- Offset zero on each of three axes. -/
theorem off3 : (![0, 0, 0] : Fin 3 → Nat) = fun _ => 0 := funext fun a => by fin_cases a <;> rfl

/-- The output block after a point: what it held, plus the scaled product of the point's slice of the hidden layer. -/
abbrev bump (x0 : Vec F S2048x768 .f32) (x3 : Vec F S1x768x1024 .f32) (x4 : Vec F S1x1x1024 .f32)
    (x5 : Vec F S1x1024x768 .f32) (scale old : Vec F S2048x768 .f32) : Vec F S2048x768 .f32 :=
  k0_pay1 (k0_pay6 x0 x3 x4 x5) (k0_pay7 old) scale

variable (c : Dev nD) (i : grid0.Coords)
  (arg2 : Memref sig .tc .vmem S2048x768 .f32) (harg2 : arg2.IsWhole)
  (arg3 : Memref sig .tc .vmem S768x8 .f32) (harg3 : arg3.IsWhole)
  (arg4 : Memref sig .tc .vmem S1x8 .f32) (harg4 : arg4.IsWhole)
  (arg5 : Memref sig .tc .vmem S1x768x1024 .f32) (harg5 : arg5.IsWhole)
  (arg6 : Memref sig .tc .vmem S1x1x1024 .f32) (harg6 : arg6.IsWhole)
  (arg7 : Memref sig .tc .vmem S1x1024x768 .f32) (harg7 : arg7.IsWhole)
  (arg8 : Memref sig .tc .vmem S8x768 .f32) (harg8 : arg8.IsWhole)
  (arg9 : Memref sig .tc .vmem S2048x768 .f32) (harg9 : arg9.IsWhole)
  (arg10 : Memref sig .tc .vmem S2048x8 .f32) (harg10 : arg10.IsWhole)
  (arg11 : Memref sig .tc .vmem S2048x768 .f32) (harg11 : arg11.IsWhole)
  (x0 : Vec F S2048x768 .f32) (x1 : Vec F S768x8 .f32) (x2 : Vec F S1x8 .f32) (x3 : Vec F S1x768x1024 .f32)
  (x4 : Vec F S1x1x1024 .f32) (x5 : Vec F S1x1024x768 .f32) (x6 : Vec F S8x768 .f32)
  (xo7 : Vec F S2048x768 .f32) (xs0 : Vec F S2048x8 .f32) (xs1 : Vec F S2048x768 .f32)

/-- First point: the routing weights go into the first scratch. -/
theorem s0_A (hc0 : cond0_0 i) (hc1 : cond0_1 i) :
    sout0_A_0 c i arg2 harg2 arg3 harg3 arg4 harg4 arg5 harg5 arg6 harg6 arg7 harg7 arg8 harg8 arg9 harg9 arg10 harg10 arg11 harg11 hc0 hc1 x0 x1 x2 x3 x4 x5 x6 =
      k0_pay3 x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_unit_zero (S := S2048x8) off2]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x768) off2, View.ld_unit_zero (S := S768x8) off2, View.ld_unit_zero (S := S1x8) off2, View.ld_unit_zero (S := S2048x8) off2, View.ld_unit_zero (S := S8x768) off2, View.ld_unit_zero (S := S1x768x1024) off3, View.ld_unit_zero (S := S1x1x1024) off3, View.ld_unit_zero (S := S1x1024x768) off3]

/-- First point: expert 0's weight, repeated along the row, goes into the second scratch. -/
theorem s1_A (hc0 : cond0_0 i) (hc1 : cond0_1 i) :
    sout0_A_1 c i arg2 harg2 arg3 harg3 arg4 harg4 arg5 harg5 arg6 harg6 arg7 harg7 arg8 harg8 arg9 harg9 arg10 harg10 arg11 harg11 hc0 hc1 x0 x1 x2 x3 x4 x5 x6 =
      k0_pay5 i (k0_pay3 x0 x1 x2) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_unit_zero (S := S2048x768) off2, View.readCov_unit_zero (S := S2048x8) _ off2]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x768) off2, View.ld_unit_zero (S := S768x8) off2, View.ld_unit_zero (S := S1x8) off2, View.ld_unit_zero (S := S2048x8) off2, View.ld_unit_zero (S := S8x768) off2, View.ld_unit_zero (S := S1x768x1024) off3, View.ld_unit_zero (S := S1x1x1024) off3, View.ld_unit_zero (S := S1x1024x768) off3]

/-- First point: the output block starts at the weighted second biases and takes the point's bump. -/
theorem out_A (hc0 : cond0_0 i) (hc1 : cond0_1 i) :
    out0_A_7 c i arg2 harg2 arg3 harg3 arg4 harg4 arg5 harg5 arg6 harg6 arg7 harg7 arg8 harg8 arg9 harg9 arg10 harg10 arg11 harg11 hc0 hc1 x0 x1 x2 x3 x4 x5 x6 =
      bump x0 x3 x4 x5 (k0_pay5 i (k0_pay3 x0 x1 x2)) (k0_pay4 x0 x1 x2 x6) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S2048x768) off2, View.readCov_unit_zero (S := S2048x768) _ off2, View.readCov_unit_zero (S := S2048x768) _ off2, View.readCov_unit_zero (S := S2048x8) _ off2]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x768) off2, View.ld_unit_zero (S := S768x8) off2, View.ld_unit_zero (S := S1x8) off2, View.ld_unit_zero (S := S2048x8) off2, View.ld_unit_zero (S := S8x768) off2, View.ld_unit_zero (S := S1x768x1024) off3, View.ld_unit_zero (S := S1x1x1024) off3, View.ld_unit_zero (S := S1x1024x768) off3]

/-- Inside an expert: the output block takes the point's bump, scaled by the second scratch. -/
theorem out_B (hc0 : ¬cond0_0 i) (hc1 : ¬cond0_1 i) :
    out0_B_7 c i arg2 harg2 arg3 harg3 arg4 harg4 arg5 harg5 arg6 harg6 arg7 harg7 arg8 harg8 arg9 harg9 arg10 harg10 arg11 harg11 hc0 hc1 x0 x1 x2 x3 x4 x5 x6 xo7 xs0 xs1 =
      bump x0 x3 x4 x5 xs1 xo7 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 x0 x1 x2 x3 x4 x5 x6 xo7 xs0 xs1)]
  unfold kernelRun0_B
  dsimp only
  sl_unfold_words
  rw [View.canon_unit_zero (S := S2048x768) off2]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x768) off2, View.ld_unit_zero (S := S768x8) off2, View.ld_unit_zero (S := S1x8) off2, View.ld_unit_zero (S := S2048x8) off2, View.ld_unit_zero (S := S8x768) off2, View.ld_unit_zero (S := S1x768x1024) off3, View.ld_unit_zero (S := S1x1x1024) off3, View.ld_unit_zero (S := S1x1024x768) off3]

/-- A later expert's first point: its weight, repeated along the row, goes into the second scratch. -/
theorem s1_C (hc0 : ¬cond0_0 i) (hc1 : cond0_1 i) :
    sout0_C_1 c i arg2 harg2 arg3 harg3 arg4 harg4 arg5 harg5 arg6 harg6 arg7 harg7 arg8 harg8 arg9 harg9 arg10 harg10 arg11 harg11 hc0 hc1 x0 x1 x2 x3 x4 x5 x6 xo7 xs0 =
      k0_pay5 i xs0 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 x6 xo7 xs0)]
  unfold kernelRun0_C
  dsimp only
  sl_unfold_words
  rw [View.canon_unit_zero (S := S2048x768) off2]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x768) off2, View.ld_unit_zero (S := S768x8) off2, View.ld_unit_zero (S := S1x8) off2, View.ld_unit_zero (S := S2048x8) off2, View.ld_unit_zero (S := S8x768) off2, View.ld_unit_zero (S := S1x768x1024) off3, View.ld_unit_zero (S := S1x1x1024) off3, View.ld_unit_zero (S := S1x1024x768) off3]

/-- A later expert's first point: the output block takes the point's bump, scaled by the new weight. -/
theorem out_C (hc0 : ¬cond0_0 i) (hc1 : cond0_1 i) :
    out0_C_7 c i arg2 harg2 arg3 harg3 arg4 harg4 arg5 harg5 arg6 harg6 arg7 harg7 arg8 harg8 arg9 harg9 arg10 harg10 arg11 harg11 hc0 hc1 x0 x1 x2 x3 x4 x5 x6 xo7 xs0 =
      bump x0 x3 x4 x5 (k0_pay5 i xs0) xo7 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xo7 xs0)]
  unfold kernelRun0_C
  dsimp only
  sl_unfold_words
  rw [View.canon_unit_zero (S := S2048x768) off2, View.readCov_unit_zero (S := S2048x768) _ off2]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x768) off2, View.ld_unit_zero (S := S768x8) off2, View.ld_unit_zero (S := S1x8) off2, View.ld_unit_zero (S := S2048x8) off2, View.ld_unit_zero (S := S8x768) off2, View.ld_unit_zero (S := S1x768x1024) off3, View.ld_unit_zero (S := S1x1x1024) off3, View.ld_unit_zero (S := S1x1024x768) off3]

end Cert.KernelIdeal.Cases

end
-- ==== Proof.Math.lean ====
/- The mathematics shared by the two programs, on extended reals: a row's routing weights (a softmax divided by its own
   sum), the fact that they are always nonnegative reals, the hidden layer's activation written two ways, and the law that
   regroups the sum over experts and hidden positions into the grid's points. -/
module

public import Idealize.ShloMosaic.PureOps.Ideal.Laws
public import Mathlib.Data.EReal.Operations
public import Mathlib.Algebra.BigOperators.Fin
public import Mathlib.Tactic.Ring
public import Mathlib.Tactic.FinCases
public import Mathlib.Algebra.Order.BigOperators.Group.Finset

@[expose] public section

noncomputable section

open Idealize.ShloMosaic
open scoped BigOperators

namespace Cert.Routed

/-! ## The routing weights -/

/-- The largest of a row's eight logits. -/
def top (L : Fin 8 → EReal) : EReal := (Finset.univ : Finset (Fin 8)).fold max ⊥ L

/-- A logit's exponential, taken relative to the largest. -/
def rise (L : Fin 8 → EReal) (e : Fin 8) : EReal := Ideal.exp (L e - top L)

/-- The softmax of a row of logits. -/
def soft (L : Fin 8 → EReal) (e : Fin 8) : EReal := Ideal.div (rise L e) (∑ j, rise L j)

/-- The softmax divided by its own sum: the weight a row gives expert `e`. -/
def weight (L : Fin 8 → EReal) (e : Fin 8) : EReal := Ideal.div (soft L e) (∑ j, soft L j)

theorem le_top (L : Fin 8 → EReal) (e : Fin 8) : L e ≤ top L :=
  (Finset.le_fold_max (L e)).mpr (.inr ⟨e, Finset.mem_univ e, le_rfl⟩)

/-- The largest logit is one of them. -/
theorem top_attained (L : Fin 8 → EReal) : ∃ e, L e = top L := by
  obtain ⟨e, -, he⟩ := Finset.exists_max_image (Finset.univ : Finset (Fin 8)) L ⟨0, Finset.mem_univ _⟩
  refine ⟨e, le_antisymm (le_top L e) ?_⟩
  exact (Finset.fold_max_le (L e)).mpr ⟨bot_le, fun j hj => he j hj⟩

/-- A quotient of reals by a nonzero real is the real quotient. -/
theorem div_real (x y : ℝ) (h : y ≠ 0) : Ideal.div (x : EReal) (y : EReal) = ((x / y : ℝ) : EReal) := by
  rw [Ideal.div_coe h, ← EReal.coe_mul, mul_one_div]

/-- A finite sum of reals, read in the extended reals. -/
theorem sum_real {n : ℕ} (r : Fin n → ℝ) : ∑ e, ((r e : ℝ) : EReal) = ((∑ e, r e : ℝ) : EReal) :=
  (map_sum (⟨⟨Real.toEReal, EReal.coe_zero⟩, EReal.coe_add⟩ : ℝ →+ EReal) r Finset.univ).symm

/-- Where every logit falls infinitely below the largest (an infinite largest logit), every weight is zero. -/
theorem weight_zero (L : Fin 8 → EReal) (h : ∀ e, L e - top L = ⊥) (e : Fin 8) : weight L e = 0 := by
  have hr : ∀ e, rise L e = 0 := fun e => by unfold rise; rw [h e]; rfl
  have hs : ∀ e, soft L e = ⊥ := fun e => by
    unfold soft
    simp only [hr, Finset.sum_const_zero]
    simp [Ideal.div]
  unfold weight
  simp only [hs]
  have : (∑ _j : Fin 8, (⊥ : EReal)) = ⊥ := by rw [Fin.sum_univ_succ, EReal.bot_add]
  rw [this]
  simp [Ideal.div]

/-- A routing weight is a nonnegative real, whatever the logits. -/
theorem weight_real (L : Fin 8 → EReal) : ∃ w : Fin 8 → ℝ, ∀ e, 0 ≤ w e ∧ weight L e = ((w e : ℝ) : EReal) := by
  by_cases h1 : top L = ⊤
  · exact ⟨fun _ => 0, fun e => ⟨le_rfl, by rw [weight_zero L (fun e => by rw [h1, sub_eq_add_neg]; simp) e]; simp⟩⟩
  by_cases h2 : top L = ⊥
  · refine ⟨fun _ => 0, fun e => ⟨le_rfl, ?_⟩⟩
    rw [weight_zero L (fun e => by
      have : L e = ⊥ := le_bot_iff.mp (h2 ▸ le_top L e)
      rw [this, sub_eq_add_neg]; simp) e]
    simp
  lift top L to ℝ using ⟨h1, h2⟩ with m hm
  have hex : ∀ e, ∃ r : ℝ, 0 ≤ r ∧ rise L e = (r : EReal) := fun e => by
    have hle := le_top L e
    unfold rise
    rw [← hm] at hle ⊢
    induction h : L e with
    | bot => exact ⟨0, le_rfl, by rw [sub_eq_add_neg, EReal.bot_add]; show (0 : EReal) = _; simp⟩
    | top => rw [h] at hle; exact absurd (top_le_iff.mp hle) (EReal.coe_ne_top m)
    | coe x => exact ⟨Real.exp (x - m), (Real.exp_pos _).le, by rw [← EReal.coe_sub]; rfl⟩
  choose x hx0 hx using hex
  obtain ⟨e0, he0⟩ := top_attained L
  have hx1 : x e0 = 1 := by
    have := hx e0
    unfold rise at this
    rw [he0, ← hm, ← EReal.coe_sub, sub_self] at this
    have h' : ((Real.exp 0 : ℝ) : EReal) = (x e0 : EReal) := this
    rw [Real.exp_zero] at h'
    exact (EReal.coe_injective h').symm
  have hS : 0 < ∑ e, x e := Finset.sum_pos' (fun e _ => hx0 e) ⟨e0, Finset.mem_univ _, by rw [hx1]; exact one_pos⟩
  have hs : ∀ e, soft L e = ((x e / ∑ j, x j : ℝ) : EReal) := fun e => by
    unfold soft; simp only [hx, sum_real]; exact div_real _ _ hS.ne'
  have hT : 0 < ∑ e, x e / ∑ j, x j := by rw [← Finset.sum_div]; exact div_pos hS hS
  refine ⟨fun e => (x e / ∑ j, x j) / ∑ e, x e / ∑ j, x j, fun e => ⟨?_, ?_⟩⟩
  · exact div_nonneg (div_nonneg (hx0 e) hS.le) hT.le
  · unfold weight; simp only [hs, sum_real]; exact div_real _ _ hT.ne'

/-! ## A nonnegative real factor distributes -/

theorem real_mul_add {w : ℝ} (hw : 0 ≤ w) (a b : EReal) : (w : EReal) * (a + b) = w * a + w * b :=
  EReal.left_distrib_of_nonneg_of_ne_top (EReal.coe_nonneg.mpr hw) (EReal.coe_ne_top w) a b

theorem real_mul_sum {w : ℝ} (hw : 0 ≤ w) {n : ℕ} (f : Fin n → EReal) : (w : EReal) * ∑ k, f k = ∑ k, (w : EReal) * f k := by
  induction n with
  | zero => simp
  | succ n ih => rw [Fin.sum_univ_succ, real_mul_add hw, ih, Fin.sum_univ_succ]

/-! ## The activation -/

/-- The activation as the kernel writes it: half the argument, times one plus the error function of its multiple by `c`. -/
def act (half one c h : EReal) : EReal := half * h * (one + Ideal.erf (h * c))

/-- The complementary error function of the opposite argument is one plus the error function. -/
theorem act_erfc (half c h : EReal) : half * h * Ideal.erfc (-h * c) = act half 1 c h := by
  unfold act; rw [EReal.neg_mul, Ideal.erfc_neg]

/-! ## The grid's points -/

/-- The expert of grid point `n`. -/
abbrev expert (n : ℕ) : Fin 8 := ⟨n / 3 % 8, Nat.mod_lt _ (by decide)⟩

/-- The hidden position that grid point `n` has at place `k` of its slice. -/
abbrev pos (n : ℕ) (k : Fin 1024) : Fin 3072 := ⟨n % 3 * 1024 + k.val, by have := k.isLt; omega⟩

/-- The points' slices make up the hidden layer. -/
theorem sum_pos (G : Fin 3072 → EReal) : ∑ f : Fin 3, ∑ k : Fin 1024, G (pos f.val k) = ∑ j, G j := by
  rw [← Fintype.sum_prod_type' (fun (f : Fin 3) (k : Fin 1024) => G (pos f.val k)),
    ← (finProdFinEquiv (m := 3) (n := 1024)).sum_comp]
  refine Finset.sum_congr rfl fun p _ => congrArg G (Fin.ext ?_)
  have := p.1.isLt
  show p.1.val % 3 * 1024 + p.2.val = p.2.val + 1024 * p.1.val
  omega

/-- A sum over the grid's points is a sum over the experts and the three slices of each. -/
theorem sum_points (T : ℕ → EReal) : ∑ n ∈ Finset.range 24, T n = ∑ e : Fin 8, ∑ f : Fin 3, T (3 * e.val + f.val) := by
  rw [Finset.sum_range, ← Fintype.sum_prod_type' (fun (e : Fin 8) (f : Fin 3) => T (3 * e.val + f.val)),
    ← (finProdFinEquiv (m := 8) (n := 3)).sum_comp]
  refine Finset.sum_congr rfl fun p _ => congrArg T ?_
  show p.2.val + 3 * p.1.val = 3 * p.1.val + p.2.val
  omega

/-- What the kernel accumulates over the first `N` points: the weighted biases, then each point's weighted slice. -/
def upTo (L : Fin 8 → EReal) (B : Fin 8 → EReal) (G : Fin 8 → Fin 3072 → EReal) (N : ℕ) : EReal :=
  (∑ e, weight L e * B e) + ∑ n ∈ Finset.range N, weight L (expert n) * ∑ k : Fin 1024, G (expert n) (pos n k)

theorem upTo_succ (L : Fin 8 → EReal) (B : Fin 8 → EReal) (G : Fin 8 → Fin 3072 → EReal) (N : ℕ) :
    upTo L B G (N + 1) = upTo L B G N + weight L (expert N) * ∑ k : Fin 1024, G (expert N) (pos N k) := by
  unfold upTo; rw [Finset.sum_range_succ, add_assoc]

/-- All the points together are the weighted sum of the experts' outputs, in any order of the experts. -/
theorem upTo_all (L : Fin 8 → EReal) (B : Fin 8 → EReal) (G : Fin 8 → Fin 3072 → EReal) (σ : Equiv.Perm (Fin 8)) :
    upTo L B G 24 = ∑ i, ((∑ j, G (σ i) j) + B (σ i)) * weight L (σ i) := by
  obtain ⟨w, hw⟩ := weight_real L
  rw [Equiv.sum_comp σ (fun e => ((∑ j, G e j) + B e) * weight L e)]
  unfold upTo
  rw [sum_points, ← Finset.sum_add_distrib]
  refine Finset.sum_congr rfl fun e _ => ?_
  have hx : ∀ f : Fin 3, expert (3 * e.val + f.val) = e := fun f => Fin.ext (by
    have := e.isLt; have := f.isLt; show (3 * e.val + f.val) / 3 % 8 = e.val; omega)
  have hp : ∀ (f : Fin 3) (k : Fin 1024), pos (3 * e.val + f.val) k = pos f.val k := fun f k => Fin.ext (by
    show (3 * e.val + f.val) % 3 * 1024 + k.val = f.val % 3 * 1024 + k.val; omega)
  simp only [hx, hp]
  rw [(hw e).2, ← real_mul_sum (hw e).1, sum_pos, mul_comm _ ((w e : ℝ) : EReal), real_mul_add (hw e).1, add_comm]

end Cert.Routed

end
-- ==== Proof.Blocks.lean ====
/- The blocks the kernel's windows read at a grid point, each at an index, off the argument arrays as launched: point `t`
   works for expert `t / 3` on slice `t % 3` of the hidden layer. -/
module

public import proofs.«01_k».proof.Proof.Cases
public import proofs.«01_k».proof.Proof.Math
public import Idealize.ShloMosaic.Lib.ValueIdx
public import Idealize.ShloMosaic.Lib.ValueLayout

@[expose] public section

set_option maxRecDepth 16384

noncomputable section

open Idealize.ShloMosaic Idealize.ShloMosaic.TcCoe Idealize.ShloMosaic.ValueIdx Idealize.SL.Sem

namespace Cert.KernelIdeal.Blocks

open Cert.KernelIdeal Cert.KernelIdeal.Gen Cert.Routed

variable {F : FTy → Type} [FloatOps F]
variable (m : (ℓ : Loc nD τ sig) → Buf (Elt F) ℓ) (c : Dev nD) (t : Fin cfg0.N)

/-! ## The region's own arrays are the arguments, relaid -/

theorem entry_v0 : V m c main_v0 = shapeCast S2048x768 (m ((c : Thread nD τ).loc main_arg0)) shapeCasts_S1x2048x768_S2048x768 := by
  show StableHlo.after hostOps0 _ (Proc.devRef .tc main_v0) = _
  after_results
  rfl

theorem entry_v1 : V m c main_v1 = shapeCast S1x8 (m ((c : Thread nD τ).loc main_arg2)) shapeCasts_S8_S1x8 := by
  show StableHlo.after hostOps0 _ (Proc.devRef .tc main_v1) = _
  after_results
  rfl

theorem entry_v2 : V m c main_v2 = shapeCast S8x1x3072 (m ((c : Thread nD τ).loc main_arg4)) shapeCasts_S8x3072_S8x1x3072 := by
  show StableHlo.after hostOps0 _ (Proc.devRef .tc main_v2) = _
  after_results
  rfl

/-! ## Where each window's block lies -/

theorem place0 : ∀ t : Fin cfg0.N, win0_0.index t (0 : Fin 2) = 0 ∧ win0_0.index t (1 : Fin 2) = 0 :=
  (by decide +kernel : ∀ t : Fin grid0.N, _)
theorem place1 : ∀ t : Fin cfg0.N, win0_1.index t (0 : Fin 2) = 0 ∧ win0_1.index t (1 : Fin 2) = 0 :=
  (by decide +kernel : ∀ t : Fin grid0.N, _)
theorem place2 : ∀ t : Fin cfg0.N, win0_2.index t (0 : Fin 2) = 0 ∧ win0_2.index t (1 : Fin 2) = 0 :=
  (by decide +kernel : ∀ t : Fin grid0.N, _)
theorem place3 : ∀ t : Fin cfg0.N, win0_3.index t (0 : Fin 3) = t.val / 3 % 8 ∧ win0_3.index t (1 : Fin 3) = 0
    ∧ win0_3.index t (2 : Fin 3) = t.val % 3 := (by decide +kernel : ∀ t : Fin grid0.N, _)
theorem place4 : ∀ t : Fin cfg0.N, win0_4.index t (0 : Fin 3) = t.val / 3 % 8 ∧ win0_4.index t (1 : Fin 3) = 0
    ∧ win0_4.index t (2 : Fin 3) = t.val % 3 := (by decide +kernel : ∀ t : Fin grid0.N, _)
theorem place5 : ∀ t : Fin cfg0.N, win0_5.index t (0 : Fin 3) = t.val / 3 % 8 ∧ win0_5.index t (1 : Fin 3) = t.val % 3
    ∧ win0_5.index t (2 : Fin 3) = 0 := (by decide +kernel : ∀ t : Fin grid0.N, _)
theorem place6 : ∀ t : Fin cfg0.N, win0_6.index t (0 : Fin 2) = 0 ∧ win0_6.index t (1 : Fin 2) = 0 :=
  (by decide +kernel : ∀ t : Fin grid0.N, _)

/-- The grid's first coordinate at a point is its expert. -/
theorem coord0 : ∀ t : Fin cfg0.N, (grid0.coords t 0).val = t.val / 3 % 8 :=
  (by decide +kernel : ∀ t : Fin grid0.N, _)

/-! ## The blocks at an index -/

theorem blk0 (r : Fin 2048) (k : Fin 768) :
    iblk m c 0 t (ix2 r k) = m ((c : Thread nD τ).loc main_arg0) (ix3 0 r k) := by
  show V m c main_v0 (((cfg0.win 0).blk t).view.emb (ix2 r k)) = _
  obtain ⟨e0, e1⟩ := place0 t
  rw [show ((cfg0.win 0).blk t).view.emb (ix2 r k) = ix2 r k from funext fun a => Fin.ext (by
    match a with
    | ⟨0, _⟩ => show win0_0.index t (0 : Fin 2) * 2048 + 1 * r.val = r.val; omega
    | ⟨1, _⟩ => show win0_0.index t (1 : Fin 2) * 768 + 1 * k.val = k.val; omega), entry_v0]
  exact shapeCast_1ab_ab_apply _ _ r k

theorem blk1 (k : Fin 768) (e : Fin 8) :
    iblk m c 1 t (ix2 k e) = m ((c : Thread nD τ).loc main_arg1) (ix2 k e) := by
  show V m c main_arg1 (((cfg0.win 1).blk t).view.emb (ix2 k e)) = _
  obtain ⟨e0, e1⟩ := place1 t
  rw [show ((cfg0.win 1).blk t).view.emb (ix2 k e) = ix2 k e from funext fun a => Fin.ext (by
    match a with
    | ⟨0, _⟩ => show win0_1.index t (0 : Fin 2) * 768 + 1 * k.val = k.val; omega
    | ⟨1, _⟩ => show win0_1.index t (1 : Fin 2) * 8 + 1 * e.val = e.val; omega), V_main_arg1]

theorem blk2 (e : Fin 8) :
    iblk m c 2 t (ix2 0 e) = m ((c : Thread nD τ).loc main_arg2) (ix1 e) := by
  show V m c main_v1 (((cfg0.win 2).blk t).view.emb (ix2 0 e)) = _
  obtain ⟨e0, e1⟩ := place2 t
  rw [show ((cfg0.win 2).blk t).view.emb (ix2 0 e) = ix2 0 e from funext fun a => Fin.ext (by
    match a with
    | ⟨0, _⟩ => show win0_2.index t (0 : Fin 2) * 1 + 1 * 0 = 0; omega
    | ⟨1, _⟩ => show win0_2.index t (1 : Fin 2) * 8 + 1 * e.val = e.val; omega), entry_v1]
  exact shapeCast_a_1a_apply _ _ 0 e

theorem blk3 (k : Fin 768) (j : Fin 1024) :
    iblk m c 3 t (ix3 0 k j) = m ((c : Thread nD τ).loc main_arg3) (ix3 (expert t.val) k (pos t.val j)) := by
  show V m c main_arg3 (((cfg0.win 3).blk t).view.emb (ix3 0 k j)) = _
  obtain ⟨e0, e1, e2⟩ := place3 t
  rw [show ((cfg0.win 3).blk t).view.emb (ix3 0 k j) = ix3 (expert t.val) k (pos t.val j) from funext fun a => Fin.ext (by
    match a with
    | ⟨0, _⟩ => show win0_3.index t (0 : Fin 3) * 1 + 1 * 0 = t.val / 3 % 8; omega
    | ⟨1, _⟩ => show win0_3.index t (1 : Fin 3) * 768 + 1 * k.val = k.val; omega
    | ⟨2, _⟩ => show win0_3.index t (2 : Fin 3) * 1024 + 1 * j.val = t.val % 3 * 1024 + j.val; omega), V_main_arg3]

theorem blk4 (j : Fin 1024) :
    iblk m c 4 t (ix3 0 0 j) = m ((c : Thread nD τ).loc main_arg4) (ix2 (expert t.val) (pos t.val j)) := by
  show V m c main_v2 (((cfg0.win 4).blk t).view.emb (ix3 0 0 j)) = _
  obtain ⟨e0, e1, e2⟩ := place4 t
  rw [show ((cfg0.win 4).blk t).view.emb (ix3 0 0 j) = ix3 (expert t.val) 0 (pos t.val j) from funext fun a => Fin.ext (by
    match a with
    | ⟨0, _⟩ => show win0_4.index t (0 : Fin 3) * 1 + 1 * 0 = t.val / 3 % 8; omega
    | ⟨1, _⟩ => show win0_4.index t (1 : Fin 3) * 1 + 1 * 0 = 0; omega
    | ⟨2, _⟩ => show win0_4.index t (2 : Fin 3) * 1024 + 1 * j.val = t.val % 3 * 1024 + j.val; omega), entry_v2]
  refine shapeCast_apply (s := S8x3072) _ _ _ _ ?_
  rw [Shape.rowMajor_val_two, Shape.rowMajor_val_three]
  show t.val / 3 % 8 * 3072 + (t.val % 3 * 1024 + j.val) = (t.val / 3 % 8 * 1 + 0) * 3072 + (t.val % 3 * 1024 + j.val)
  omega

theorem blk5 (j : Fin 1024) (h : Fin 768) :
    iblk m c 5 t (ix3 0 j h) = m ((c : Thread nD τ).loc main_arg5) (ix3 (expert t.val) (pos t.val j) h) := by
  show V m c main_arg5 (((cfg0.win 5).blk t).view.emb (ix3 0 j h)) = _
  obtain ⟨e0, e1, e2⟩ := place5 t
  rw [show ((cfg0.win 5).blk t).view.emb (ix3 0 j h) = ix3 (expert t.val) (pos t.val j) h from funext fun a => Fin.ext (by
    match a with
    | ⟨0, _⟩ => show win0_5.index t (0 : Fin 3) * 1 + 1 * 0 = t.val / 3 % 8; omega
    | ⟨1, _⟩ => show win0_5.index t (1 : Fin 3) * 1024 + 1 * j.val = t.val % 3 * 1024 + j.val; omega
    | ⟨2, _⟩ => show win0_5.index t (2 : Fin 3) * 768 + 1 * h.val = h.val; omega), V_main_arg5]

theorem blk6 (e : Fin 8) (h : Fin 768) :
    iblk m c 6 t (ix2 e h) = m ((c : Thread nD τ).loc main_arg6) (ix2 e h) := by
  show V m c main_arg6 (((cfg0.win 6).blk t).view.emb (ix2 e h)) = _
  obtain ⟨e0, e1⟩ := place6 t
  rw [show ((cfg0.win 6).blk t).view.emb (ix2 e h) = ix2 e h from funext fun a => Fin.ext (by
    match a with
    | ⟨0, _⟩ => show win0_6.index t (0 : Fin 2) * 8 + 1 * e.val = e.val; omega
    | ⟨1, _⟩ => show win0_6.index t (1 : Fin 2) * 768 + 1 * h.val = h.val; omega), V_main_arg6]

end Cert.KernelIdeal.Blocks

end
-- ==== Proof.Spec.lean ====
/- The value both programs compute, as a function of the seven arguments: each row's logits, an expert's second biases and
   its hidden layer's terms, gathered in the order of the kernel's grid. -/
module

public import proofs.«01_k».proof.Proof.Math
public import Idealize.ShloMosaic.Lib.ValueIdx

@[expose] public section

noncomputable section

open Idealize.ShloMosaic Idealize.ShloMosaic.ValueIdx
open scoped BigOperators

namespace Cert.Routed

/-- One half and the reciprocal square root of two, as the programs' constants have them. -/
abbrev half : EReal := Ideal.ofBits .f32 0x3F000000#32
abbrev rsq : EReal := Ideal.ofBits .f32 0x3F3504F3#32

variable (a0 : (⟨3, ![1, 2048, 768]⟩ : Shape).Idx → EReal) (a1 : (⟨2, ![768, 8]⟩ : Shape).Idx → EReal)
  (a2 : (⟨1, ![8]⟩ : Shape).Idx → EReal) (a3 : (⟨3, ![8, 768, 3072]⟩ : Shape).Idx → EReal)
  (a4 : (⟨2, ![8, 3072]⟩ : Shape).Idx → EReal) (a5 : (⟨3, ![8, 3072, 768]⟩ : Shape).Idx → EReal)
  (a6 : (⟨2, ![8, 768]⟩ : Shape).Idx → EReal)

/-- Row `r`'s logit for expert `e`. -/
def logits (r : Fin 2048) (e : Fin 8) : EReal := (∑ k : Fin 768, a0 (ix3 0 r k) * a1 (ix2 k e)) + a2 (ix1 e)

/-- Expert `e`'s second bias at place `h`. -/
def bias (h : Fin 768) (e : Fin 8) : EReal := a6 (ix2 e h)

/-- Row `r`'s hidden value of expert `e` at position `j`, before the activation. -/
def preact (r : Fin 2048) (e : Fin 8) (j : Fin 3072) : EReal :=
  (∑ k : Fin 768, a0 (ix3 0 r k) * a3 (ix3 e k j)) + a4 (ix2 e j)

/-- Position `j`'s term of expert `e`'s output for row `r` at place `h`. -/
def term (r : Fin 2048) (h : Fin 768) (e : Fin 8) (j : Fin 3072) : EReal :=
  act half 1 rsq (preact a0 a3 a4 r e j) * a5 (ix3 e j h)

/-- The result at row `r`, place `h`, after `N` of the kernel's grid points. -/
abbrev partialAt (r : Fin 2048) (h : Fin 768) (N : ℕ) : EReal :=
  upTo (logits a0 a1 a2 r) (bias a6 h) (term a0 a3 a4 a5 r h) N

end Cert.Routed

end
-- ==== Proof.Payloads.lean ====
/- The kernel body's payloads, each read at an index over the extended reals: the routing weights, the weighted second
   biases, an expert's weight repeated along a row, and a slice of the hidden layer times its rows of the second matrix. -/
module

public import proofs.«01_k».proof.Proof.Gen.KernelIdeal.Skeleton
public import proofs.«01_k».proof.Proof.Spec
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 16384

noncomputable section

open Idealize.ShloMosaic Idealize.ShloMosaic.TcCoe Idealize.ShloMosaic.ValueIdx Idealize.SL.Sem
open scoped BigOperators

namespace Cert.KernelIdeal.Payloads

open Cert.KernelIdeal Cert.KernelIdeal.Gen Cert.Routed

/-- The 32-bit pattern of minus infinity is the least extended real. -/
theorem ofBits_bot : Ideal.ofBits .f32 0xFF800000#32 = ⊥ := by simp [Ideal.ofBits, Ideal.ieee]

/-- A column repeated along eight lanes reads, at `(r, e)`, the column at `r`. -/
theorem col8 (v : FVec Ideal S2048 .f32) (r : Fin 2048) (e : Fin 8) :
    broadcastTo S2048x8 (shapeCast S2048x1 v shapeCasts_S2048_S2048x1) broadcasts_S2048x1_S2048x8 (ix2 r e) = v (ix1 r) := by
  rw [broadcastTo_apply _ broadcasts_S2048x1_S2048x8 (ix2 r e) (ix2 r (0 : Fin 1)) (fun ax => by
    match ax with
    | ⟨0, _⟩ => rfl
    | ⟨1, _⟩ => rfl)]
  exact shapeCast_a_a1_apply v _ r 0

/-- A column repeated along a row of 768 reads, at `(r, h)`, the column at `r`. -/
theorem col768 (v : FVec Ideal S2048 .f32) (r : Fin 2048) (h : Fin 768) :
    broadcastTo S2048x768 (shapeCast S2048x1 v shapeCasts_S2048_S2048x1) broadcasts_S2048x1_S2048x768 (ix2 r h) = v (ix1 r) := by
  rw [broadcastTo_apply _ broadcasts_S2048x1_S2048x768 (ix2 r h) (ix2 r (0 : Fin 1)) (fun ax => by
    match ax with
    | ⟨0, _⟩ => rfl
    | ⟨1, _⟩ => rfl)]
  exact shapeCast_a_a1_apply v _ r 0

/-- The lane a row's reduction runs over. -/
theorem lift8 (r : Fin 2048) (k : Fin 8) : (reduces_S2048x8_S2048.lift (ix1 r) k : S2048x8.Idx) = ix2 r k := by
  funext a
  match a with
  | ⟨0, _⟩ => rfl
  | ⟨1, _⟩ => rfl

/-- A row's sum over its eight lanes. -/
theorem rowSum (v : FVec Ideal S2048x8 .f32) (r : Fin 2048) :
    multiReduction .add [1] S2048 v 0x00000000#32 reduces_S2048x8_S2048 (.inl rfl) rfl (ix1 r) = ∑ e : Fin 8, v (ix2 r e) := by
  refine (Ideal.multiReduction_add_single v 0x00000000#32 reduces_S2048x8_S2048 (.inl rfl) rfl (ix1 r)).trans ?_
  exact Finset.sum_congr rfl fun k _ => congrArg v (lift8 r k)

/-- A row's largest over its eight lanes. -/
theorem rowMax (v : FVec Ideal S2048x8 .f32) (r : Fin 2048) :
    multiReduction .maximumf [1] S2048 v 0xFF800000#32 reduces_S2048x8_S2048 (.inl rfl) rfl (ix1 r) = top fun e => v (ix2 r e) := by
  refine (Ideal.multiReduction_maximumf_single v 0xFF800000#32 reduces_S2048x8_S2048 (.inl rfl) rfl (ix1 r)).trans ?_
  unfold top
  rw [show FloatOps.ofBits (F := Ideal) .f32 0xFF800000#32 = ⊥ from ofBits_bot]
  exact congrArg (Finset.fold max ⊥ · Finset.univ) (funext fun k => congrArg v (lift8 r k))

/-- Exponentials of a row relative to its largest, at `(r, e)`. -/
theorem rise_at (v : FVec Ideal S2048x8 .f32) (r : Fin 2048) (e : Fin 8) :
    exp (subf v (broadcastTo S2048x8 (shapeCast S2048x1 (multiReduction .maximumf [1] S2048 v 0xFF800000#32 reduces_S2048x8_S2048
      (.inl rfl) rfl) shapeCasts_S2048_S2048x1) broadcasts_S2048x1_S2048x8)) (ix2 r e) = rise (fun e => v (ix2 r e)) e := by
  show Ideal.exp (v (ix2 r e) - _) = _
  rw [col8, rowMax]; rfl

/-- A row divided by its sum, at `(r, e)`. -/
theorem over_sum (v : FVec Ideal S2048x8 .f32) (r : Fin 2048) (e : Fin 8) :
    divf v (broadcastTo S2048x8 (shapeCast S2048x1 (multiReduction .add [1] S2048 v 0x00000000#32 reduces_S2048x8_S2048
      (.inl rfl) rfl) shapeCasts_S2048_S2048x1) broadcasts_S2048x1_S2048x8) (ix2 r e)
      = Ideal.div (v (ix2 r e)) (∑ j : Fin 8, v (ix2 r j)) := by
  show Ideal.div (v (ix2 r e)) _ = _
  rw [col8, rowSum]

/-- The softmax of a row, at `(r, e)`. -/
theorem soft_at (v : FVec Ideal S2048x8 .f32) (r : Fin 2048) (e : Fin 8) :
    divf (exp (subf v (broadcastTo S2048x8 (shapeCast S2048x1 (multiReduction .maximumf [1] S2048 v 0xFF800000#32 reduces_S2048x8_S2048
      (.inl rfl) rfl) shapeCasts_S2048_S2048x1) broadcasts_S2048x1_S2048x8)))
      (broadcastTo S2048x8 (shapeCast S2048x1 (multiReduction .add [1] S2048
        (exp (subf v (broadcastTo S2048x8 (shapeCast S2048x1 (multiReduction .maximumf [1] S2048 v 0xFF800000#32 reduces_S2048x8_S2048
          (.inl rfl) rfl) shapeCasts_S2048_S2048x1) broadcasts_S2048x1_S2048x8))) 0x00000000#32 reduces_S2048x8_S2048
        (.inl rfl) rfl) shapeCasts_S2048_S2048x1) broadcasts_S2048x1_S2048x8) (ix2 r e) = soft (fun e => v (ix2 r e)) e :=
  (over_sum _ r e).trans (congr (congrArg Ideal.div (rise_at v r e)) (Finset.sum_congr rfl fun j _ => rise_at v r j))

/-- The logits a row's weights are taken of. -/
abbrev logit (x : FVec Ideal S2048x768 .f32) (gw : FVec Ideal S768x8 .f32) (gb : FVec Ideal S1x8 .f32) (r : Fin 2048) (e : Fin 8) : EReal :=
  (∑ k : Fin 768, x (ix2 r k) * gw (ix2 k e)) + gb (ix2 0 e)

/-- The routing weights at an index. -/
theorem weights_at (x : FVec Ideal S2048x768 .f32) (gw : FVec Ideal S768x8 .f32) (gb : FVec Ideal S1x8 .f32) (r : Fin 2048) (e : Fin 8) :
    k0_pay2 (F := Ideal) x gw gb (ix2 r e) = weight (logit x gw gb r) e := by
  unfold k0_pay2
  dsimp only
  generalize hL : addf (matmul dot_S2048x768_S768x8_S2048x8_1_0_0_1_n_n none (shapeCast S2048x768 x shapeCasts_S2048x768_S2048x768) gw
      (constant S2048x8 .f32 0x00000000#32)) (broadcastTo S2048x8 (shapeCast S1x8 (shapeCast S8 gb shapeCasts_S1x8_S8) shapeCasts_S8_S1x8)
      broadcasts_S1x8_S2048x8) = v
  have hv : ∀ e, v (ix2 r e) = logit x gw gb r e := fun e => by
    rw [← hL, addf_apply, shapeCast_self]
    have hm : matmul dot_S2048x768_S768x8_S2048x8_1_0_0_1_n_n none x gw (constant (F := Ideal) S2048x8 .f32 0x00000000#32) (ix2 r e)
        = constant (F := Ideal) S2048x8 .f32 0x00000000#32 (ix2 r e) + ∑ k : Fin 768, x (ix2 r k) * gw (ix2 k e) :=
      Ideal.matmul_plain_apply (M := 2048) (K := 768) (N := 8) none x gw _ r e
    rw [hm, constant_apply, Ideal.ofBits_zero_f32, zero_add]
    congr 1
    rw [broadcastTo_1b_ab_apply (a := 2048) (b := 8) _ broadcasts_S1x8_S2048x8 r e]
    rw [shapeCast_a_1a_apply (a := 8) _ shapeCasts_S8_S1x8 0 e]
    exact shapeCast_1a_a_apply (a := 8) gb shapeCasts_S1x8_S8 e
  rw [← show (fun e => v (ix2 r e)) = logit x gw gb r from funext hv]
  exact (over_sum _ r e).trans (congr (congrArg Ideal.div (soft_at v r e)) (Finset.sum_congr rfl fun j _ => soft_at v r j))

theorem stored_at (x : FVec Ideal S2048x768 .f32) (gw : FVec Ideal S768x8 .f32) (gb : FVec Ideal S1x8 .f32) (r : Fin 2048) (e : Fin 8) :
    k0_pay3 (F := Ideal) x gw gb (ix2 r e) = weight (logit x gw gb r) e := by
  unfold k0_pay3
  rw [shapeCast_self]
  exact weights_at x gw gb r e

/-- The second biases, weighted, at an index. -/
theorem biases_at (x : FVec Ideal S2048x768 .f32) (gw : FVec Ideal S768x8 .f32) (gb : FVec Ideal S1x8 .f32) (b : FVec Ideal S8x768 .f32)
    (r : Fin 2048) (h : Fin 768) :
    k0_pay4 (F := Ideal) x gw gb b (ix2 r h) = ∑ e : Fin 8, weight (logit x gw gb r) e * b (ix2 e h) := by
  unfold k0_pay4
  refine (Ideal.matmul_plain_apply (M := 2048) (K := 8) (N := 768) none (k0_pay2 x gw gb) b _ r h).trans ?_
  rw [constant_apply, Ideal.ofBits_zero_f32, zero_add]
  exact Finset.sum_congr rfl fun e _ => by rw [weights_at]

/-- Comparing a lane's word with an expert's. -/
theorem lane_mask : ∀ j e : Fin 8, IntOp.cmpi .eq (BitVec.ofNat 32 j.val) (BitVec.ofNat 32 e.val) = if j = e then 1#1 else 0#1 := by
  decide

/-- The second scratch: lane `i 0` of the weights, at every place of the row. -/
theorem lane_at (i : grid0.Coords) (p : FVec Ideal S2048x8 .f32) (e : Fin 8) (he : (i 0).val = e.val) (r : Fin 2048) (h : Fin 768) :
    k0_pay5 (F := Ideal) i p (ix2 r h) = p (ix2 r e) := by
  unfold k0_pay5
  dsimp only
  have hm : ∀ j : Fin 8, cmpi .eq (iota .tc S2048x8 32 [1] iota_S2048x8_d1_w32) (broadcast S2048x8 (BitVec.ofNat 32 (i 0).val)) (ix2 r j)
      = if j = e then 1#1 else 0#1 := fun j => by
    show IntOp.cmpi .eq (iota .tc S2048x8 32 [1] iota_S2048x8_d1_w32 (ix2 r j)) (BitVec.ofNat 32 (i 0).val) = _
    rw [iota_single_apply, he]
    exact lane_mask j e
  rw [shapeCast_self, shapeCast_self, col768, rowSum, Finset.sum_eq_single e]
  · rw [select_apply, hm, if_pos rfl]; rfl
  · intro j _ hj
    rw [select_apply, hm, if_neg hj]
    exact Ideal.ofBits_zero_f32
  · exact fun k => absurd (Finset.mem_univ _) k

/-- A slice of the hidden layer times its rows of the second matrix, at an index. -/
theorem slice_at (x : FVec Ideal S2048x768 .f32) (w : FVec Ideal S1x768x1024 .f32) (b : FVec Ideal S1x1x1024 .f32)
    (w' : FVec Ideal S1x1024x768 .f32) (r : Fin 2048) (h : Fin 768) :
    k0_pay6 (F := Ideal) x w b w' (ix2 r h)
      = ∑ j : Fin 1024, act half 1 rsq ((∑ k : Fin 768, x (ix2 r k) * w (ix3 0 k j)) + b (ix3 0 0 j)) * w' (ix3 0 j h) := by
  unfold k0_pay6
  refine (Ideal.matmul_plain_apply (M := 2048) (K := 1024) (N := 768) none _ _ _ r h).trans ?_
  rw [constant_apply, Ideal.ofBits_zero_f32, zero_add]
  refine Finset.sum_congr rfl fun j _ => ?_
  have hw : shapeCast S1024x768 w' shapeCasts_S1x1024x768_S1024x768 (ix2 j h) = w' (ix3 0 j h) :=
    shapeCast_1ab_ab_apply (a := 1024) (b := 768) w' _ j h
  generalize hH : addf (matmul dot_S2048x768_S768x1024_S2048x1024_1_0_0_1_n_n none (shapeCast S2048x768 x shapeCasts_S2048x768_S2048x768)
      (shapeCast S768x1024 w shapeCasts_S1x768x1024_S768x1024) (constant S2048x1024 .f32 0x00000000#32))
      (broadcastTo S2048x1024 (shapeCast S1x1024 (shapeCast S1024 b shapeCasts_S1x1x1024_S1024) shapeCasts_S1024_S1x1024)
      broadcasts_S1x1024_S2048x1024) = v
  have hv : v (ix2 r j) = (∑ k : Fin 768, x (ix2 r k) * w (ix3 0 k j)) + b (ix3 0 0 j) := by
    rw [← hH, addf_apply, shapeCast_self]
    have hm : matmul dot_S2048x768_S768x1024_S2048x1024_1_0_0_1_n_n none x (shapeCast S768x1024 w shapeCasts_S1x768x1024_S768x1024)
          (constant (F := Ideal) S2048x1024 .f32 0x00000000#32) (ix2 r j)
        = constant (F := Ideal) S2048x1024 .f32 0x00000000#32 (ix2 r j)
          + ∑ k : Fin 768, x (ix2 r k) * shapeCast S768x1024 w shapeCasts_S1x768x1024_S768x1024 (ix2 k j) :=
      Ideal.matmul_plain_apply (M := 2048) (K := 768) (N := 1024) none x _ _ r j
    rw [hm, constant_apply, Ideal.ofBits_zero_f32, zero_add]
    congr 1
    · exact Finset.sum_congr rfl fun k _ => congrArg (x (ix2 r k) * ·) (shapeCast_1ab_ab_apply (a := 768) (b := 1024) w _ k j)
    · rw [broadcastTo_1b_ab_apply (a := 2048) (b := 1024) _ broadcasts_S1x1024_S2048x1024 r j,
        shapeCast_a_1a_apply (a := 1024) _ shapeCasts_S1024_S1x1024 0 j]
      refine shapeCast_apply (s := S1x1x1024) b _ _ (ix3 0 0 j) ?_
      rw [Shape.rowMajor_val_three, Shape.rowMajor_val_one]
      show (0 * 1 + 0) * 1024 + j.val = j.val
      omega
  rw [hw, ← hv]
  show half * v (ix2 r j) * (Ideal.ofBits .f32 0x3F800000#32 + Ideal.erf (v (ix2 r j) * rsq)) * _ = _
  rw [Ideal.ofBits_one_f32]
  rfl

end Cert.KernelIdeal.Payloads

end
-- ==== Proof.Fold.lean ====
/- The kernel's grid, folded: what the output block and the two scratches hold after each point, and so the result array. -/
module

public import proofs.«01_k».proof.Proof.Blocks
public import proofs.«01_k».proof.Proof.Payloads

@[expose] public section

set_option maxRecDepth 16384

noncomputable section

open Idealize.ShloMosaic Idealize.ShloMosaic.TcCoe Idealize.ShloMosaic.ValueIdx Idealize.SL.Sem
open scoped BigOperators

namespace Cert.KernelIdeal.Fold

open Cert.KernelIdeal Cert.KernelIdeal.Gen Cert.KernelIdeal.Value Cert.Routed
open Cert.KernelIdeal.Cases Cert.KernelIdeal.Blocks Cert.KernelIdeal.Payloads

variable (m : (ℓ : Loc nD τ sig) → Buf (Elt Ideal) ℓ) (c : Dev nD)

/-- Row `r`'s logits, of the arguments as launched. -/
abbrev L (r : Fin 2048) : Fin 8 → EReal :=
  logits (m ((c : Thread nD τ).loc main_arg0)) (m ((c : Thread nD τ).loc main_arg1)) (m ((c : Thread nD τ).loc main_arg2)) r

/-- The result at `(r, h)` after `N` points, of the arguments as launched. -/
abbrev out (r : Fin 2048) (h : Fin 768) (N : ℕ) : EReal :=
  partialAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r h N

/-- Logits of arrays that agree with the arguments are the arguments' logits. -/
theorem logit_of (x : FVec Ideal S2048x768 .f32) (gw : FVec Ideal S768x8 .f32) (gb : FVec Ideal S1x8 .f32) (r : Fin 2048)
    (hx : ∀ k, x (ix2 r k) = m ((c : Thread nD τ).loc main_arg0) (ix3 0 r k))
    (hw : ∀ k e, gw (ix2 k e) = m ((c : Thread nD τ).loc main_arg1) (ix2 k e))
    (hb : ∀ e, gb (ix2 0 e) = m ((c : Thread nD τ).loc main_arg2) (ix1 e)) : logit x gw gb r = L m c r := by
  funext e
  unfold logit L logits
  rw [hb]
  exact congrArg (· + _) (Finset.sum_congr rfl fun k _ => by rw [hx, hw])

/-- A row's logits, read off the blocks of any point. -/
theorem logit_blk (t : Fin cfg0.N) (r : Fin 2048) : logit (iblk m c 0 t) (iblk m c 1 t) (iblk m c 2 t) r = L m c r :=
  logit_of m c _ _ _ r (blk0 m c t r) (blk1 m c t) (blk2 m c t)

/-- A point's slice of its expert's output, read off the point's blocks. -/
theorem slice_blk (t : Fin cfg0.N) (r : Fin 2048) (h : Fin 768) :
    k0_pay6 (F := Ideal) (iblk m c 0 t) (iblk m c 3 t) (iblk m c 4 t) (iblk m c 5 t) (ix2 r h)
      = ∑ k : Fin 1024, term (m ((c : Thread nD τ).loc main_arg0)) (m ((c : Thread nD τ).loc main_arg3))
          (m ((c : Thread nD τ).loc main_arg4)) (m ((c : Thread nD τ).loc main_arg5)) r h (expert t.val) (pos t.val k) := by
  rw [slice_at]
  refine Finset.sum_congr rfl fun j _ => ?_
  unfold term preact
  rw [blk4, blk5]
  refine congrArg (fun z => act half 1 rsq (z + _) * _) (Finset.sum_congr rfl fun k _ => ?_)
  rw [blk0, blk3]

/-- The bump at an index, when the scale is the point's expert's weight and the old block is the result so far. -/
theorem bump_at (t : Fin cfg0.N) (scale old : FVec Ideal S2048x768 .f32) (r : Fin 2048) (h : Fin 768)
    (hs : scale (ix2 r h) = weight (L m c r) (expert t.val)) (ho : old (ix2 r h) = out m c r h t.val) :
    bump (F := Ideal) (iblk m c 0 t) (iblk m c 3 t) (iblk m c 4 t) (iblk m c 5 t) scale old (ix2 r h) = out m c r h (t.val + 1) := by
  show k0_pay7 (F := Ideal) old (ix2 r h) + scale (ix2 r h) * k0_pay6 (F := Ideal) (iblk m c 0 t) (iblk m c 3 t) (iblk m c 4 t) (iblk m c 5 t) (ix2 r h) = _
  rw [slice_blk, hs, show k0_pay7 (F := Ideal) old = old from shapeCast_self old _, ho]
  exact (upTo_succ _ _ _ _).symm

/-- What holds after point `n`: the output block is the result over the points so far, the first scratch the routing
    weights, the second the point's expert's weight along every row. -/
structure Inv (n : ℕ) (s : Vec Ideal S2048x768 .f32 × Vec Ideal S2048x8 .f32 × Vec Ideal S2048x768 .f32) : Prop where
  block : ∀ r h, s.1 (ix2 r h) = out m c r h (n + 1)
  weights : ∀ r e, s.2.1 (ix2 r e) = weight (L m c r) e
  lane : ∀ r h, s.2.2 (ix2 r h) = weight (L m c r) (expert n)

/-- The second scratch a new expert's point writes. -/
theorem lane_blk (t : Fin cfg0.N) (p : FVec Ideal S2048x8 .f32) (hp : ∀ r e, p (ix2 r e) = weight (L m c r) e)
    (r : Fin 2048) (h : Fin 768) : k0_pay5 (F := Ideal) (grid0.coords t) p (ix2 r h) = weight (L m c r) (expert t.val) := by
  rw [lane_at _ p (expert t.val) (coord0 t), hp]

theorem stored_blk (t : Fin cfg0.N) (r : Fin 2048) (e : Fin 8) :
    k0_pay3 (F := Ideal) (iblk m c 0 t) (iblk m c 1 t) (iblk m c 2 t) (ix2 r e) = weight (L m c r) e := by
  rw [stored_at, logit_blk]

/-- The first point establishes it. -/
theorem first (t : Fin cfg0.N) (ht : t.val = 0) (acc) : Inv m c t.val (stAt0 m c t.val t.isLt acc) := by
  rw [stAt0_A m c t acc (by rw [ht]) (by rw [ht]), out_A, s0_A, s1_A]
  refine ⟨fun r h => bump_at m c t _ _ r h (lane_blk m c t _ (stored_blk m c t) r h) ?_, stored_blk m c t,
    lane_blk m c t _ (stored_blk m c t)⟩
  rw [biases_at, logit_blk, ht]
  unfold out partialAt upTo
  rw [Finset.range_zero, Finset.sum_empty, add_zero]
  exact Finset.sum_congr rfl fun e _ => by rw [blk6]; rfl

/-- Every later point keeps it. -/
theorem next (t : Fin cfg0.N) (n : ℕ) (ht : t.val = n + 1) (acc) (ih : Inv m c n acc) :
    Inv m c t.val (stAt0 m c t.val t.isLt acc) := by
  have hN : t.val < 24 := lt_of_lt_of_eq t.isLt (show cfg0.N = 24 from N_0)
  have h0 : ¬t.val % 24 = 0 := by omega
  by_cases h1 : t.val % 3 = 0
  · rw [stAt0_C m c t acc h0 h1, out_C, s1_C]
    exact ⟨fun r h => bump_at m c t _ _ r h (lane_blk m c t _ ih.weights r h) (by rw [ih.block, ht]), ih.weights,
      lane_blk m c t _ ih.weights⟩
  · rw [stAt0_B m c t acc h0 h1, out_B]
    have he : expert t.val = expert n := Fin.ext (by show t.val / 3 % 8 = n / 3 % 8; omega)
    exact ⟨fun r h => bump_at m c t _ _ r h (by rw [ih.lane, he]) (by rw [ih.block, ht]), ih.weights,
      fun r h => by rw [he]; exact ih.lane r h⟩

theorem holds : ∀ (n : ℕ) (hn : n < cfg0.N), Inv m c n (outsAt0 m c n hn)
  | 0, hn => by rw [outsAt0_zero]; exact first m c ⟨0, hn⟩ rfl _
  | n + 1, hn => by
    rw [outsAt0_succ]
    exact next m c ⟨n + 1, hn⟩ n rfl _ (holds n (Nat.lt_of_succ_lt hn))

/-- The kernel's result array, at an index. -/
theorem result_at (r : Fin 2048) (h : Fin 768) : G7 m c (ix2 r h) = out m c r h 24 := by
  rw [G7_last, ← outsAt0_sweep m c 23 (lt_of_lt_of_eq (by decide) N_0.symm)]
  exact (holds m c 23 _).block r h

end Cert.KernelIdeal.Fold

end
-- ==== Proof.RefOps.lean ====
/- The reference's operations that move data by value, each read at an index: the ranking of a row of eight, the largest
   of a row, and one of the eight slots — the expert a slot names, gathered, times the slot's weight. -/
module

public import proofs.«01_k».proof.Proof.Gen.ReferenceIdeal.Read
public import proofs.«01_k».proof.Proof.Spec
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.SortFacts
public import Idealize.ShloMosaic.Lib.WordCmp
public import Idealize.ShloMosaic.Lib.Pipeline.Value

@[expose] public section

set_option maxRecDepth 16384

noncomputable section

open Idealize.ShloMosaic Idealize.ShloMosaic.TcCoe Idealize.ShloMosaic.ValueIdx Idealize.SL.Sem
open scoped BigOperators

namespace Cert.ReferenceIdeal.Ops

open Cert.ReferenceIdeal Cert.ReferenceIdeal.Gen Cert.Routed

/-! ## The ranking of a row -/

/-- The lane whose value a row's ranking puts at each place. -/
def lane (p : FVec Ideal S2048x8 .f32) (r : Fin 2048) : Fin 8 → Fin 8 :=
  sortedFrom fun k k' => FloatOps.cmpfTotal .gt (p (ix2 r k)) (p (ix2 r k')) == 1#1

/-- The ranking rearranges the lanes. -/
def ranking (p : FVec Ideal S2048x8 .f32) (r : Fin 2048) : Equiv.Perm (Fin 8) :=
  Equiv.ofBijective (lane p r) ⟨sortedFrom_injective _, sortedFrom_surjective _⟩

theorem along_row (r : Fin 2048) (i k : Fin 8) : ((ix2 r i : S2048x8.Idx).along (1 : Fin S2048x8.rank) k : S2048x8.Idx) = ix2 r k := by
  funext a
  match a with
  | ⟨0, _⟩ => rfl
  | ⟨1, _⟩ => rfl

/-- The lane a row's ranking puts at a place of the array. -/
def from_row (p : FVec Ideal S2048x8 .f32) (j : S2048x8.Idx) : Fin (S2048x8.size 1) :=
  sortedFrom (fun k k' => FloatOps.cmpfTotal .gt (p (j.along (1 : Fin S2048x8.rank) k)) (p (j.along (1 : Fin S2048x8.rank) k')) == 1#1) (j 1)

theorem from_row_eq (p : FVec Ideal S2048x8 .f32) (r : Fin 2048) (i : Fin 8) : from_row p (ix2 r i) = ranking p r i :=
  congrFun (congrArg sortedFrom (funext fun k => funext fun k' => by rw [along_row r i k, along_row r i k'])) i

theorem whole_row {α : Type} (x : S2048x8.Idx → α) (r : Fin 2048) (i : Fin 8) :
    extractStridedSlice S2048x8 (fun _ => 0) x sliceFits_S2048x8_S2048x8 (ix2 r i) = x (ix2 r i) :=
  extractStridedSlice_apply _ x sliceFits_S2048x8_S2048x8 (ix2 r i) (ix2 r i) fun a => by
    match a with
    | ⟨0, _⟩ => exact (Nat.zero_add _).symm
    | ⟨1, _⟩ => exact (Nat.zero_add _).symm

/-- The value at place `i` of a row's ranking. -/
theorem ranked_value (p : FVec Ideal S2048x8 .f32) (r : Fin 2048) (i : Fin 8) :
    (Host.topK S2048x8 1 (FloatOps.cmpfTotal .gt) p sliceFits_S2048x8_S2048x8).1 (ix2 r i) = p (ix2 r (ranking p r i)) := by
  show extractStridedSlice S2048x8 (fun _ => 0) (fun j : S2048x8.Idx => p (j.along (1 : Fin S2048x8.rank) (from_row p j)))
    sliceFits_S2048x8_S2048x8 (ix2 r i) = _
  rw [whole_row, from_row_eq]
  exact congrArg p (along_row r i _)

/-- The lane at place `i` of a row's ranking. -/
theorem ranked_lane (p : FVec Ideal S2048x8 .f32) (r : Fin 2048) (i : Fin 8) :
    (Host.topK S2048x8 1 (FloatOps.cmpfTotal .gt) p sliceFits_S2048x8_S2048x8).2 (ix2 r i) = BitVec.ofNat 32 (ranking p r i).val := by
  show extractStridedSlice S2048x8 (fun _ => 0) (fun j : S2048x8.Idx => BitVec.ofNat 32 (j.along (1 : Fin S2048x8.rank) (from_row p j) 1).val)
    sliceFits_S2048x8_S2048x8 (ix2 r i) = _
  rw [whole_row, from_row_eq, along_row]

/-! ## The largest of a row -/

theorem ofBits_bot : Ideal.ofBits .f32 0xFF800000#32 = ⊥ := by simp [Ideal.ofBits, Ideal.ieee]

theorem reduces8 : S2048x8.Reduces [1] S2048 := by decide

theorem row_top (v : FVec Ideal S2048x8 .f32) (r : Fin 2048) :
    Host.reduce FloatOps.maximumf v (constant S_ .f32 0xFF800000#32) reducesTo_S2048x8_S2048_d1 h_S_ (ix1 r)
      = top fun e => v (ix2 r e) := by
  refine (Host.reduce_eq_fold_single (FloatOps.maximumf (F := Ideal) (φ := .f32)) v _ reducesTo_S2048x8_S2048_d1 reduces8 h_S_
    (ix1 r)).trans ?_
  unfold top
  rw [show (constant (F := Ideal) S_ .f32 0xFF800000#32) (Shape.Idx.first h_S_) = ⊥ from ofBits_bot]
  refine congrArg (Finset.fold max ⊥ · Finset.univ) (funext fun k => congrArg v ?_)
  funext a
  match a with
  | ⟨0, _⟩ => rfl
  | ⟨1, _⟩ => rfl

/-! ## One slot -/

/-- A word counted from zero is not negative, so it is kept. -/
theorem kept (n : ℕ) (hn : n < 2048) (b : BitVec 32) :
    Scalar.select (IntOp.cmpi .slt (BitVec.ofNat 32 n) 0#32) b (BitVec.ofNat 32 n) = BitVec.ofNat 32 n := by
  rw [show IntOp.cmpi .slt (BitVec.ofNat 32 n) (BitVec.ofNat 32 0) = 0#1 from
    (WordCmp.cmpi_slt_ofNat_eq_zero_iff (by omega) (by omega)).mpr (by omega)]
  rfl

/-- A column of words, made non-negative by adding the extent to the negative ones, as a column of width one. -/
def wrapped (v : IVec S2048 32) (n : BitVec 32) : IVec S2048x1 32 :=
  broadcastInDim S2048x1 ![0] bcast_S2048_S2048x1_0
    (select (cmpi .slt v (broadcastInDim S2048 ![] bcast_S_S2048 (constantI S_ 32 0#32)))
      (addi v (broadcastInDim S2048 ![] bcast_S_S2048 (constantI S_ 32 n))) v)

theorem wrapped_at (v : IVec S2048 32) (n : BitVec 32) (r : Fin 2048) (k : ℕ) (hk : k < 2048) (hv : v (ix1 r) = BitVec.ofNat 32 k) :
    wrapped v n (ix2 r 0) = BitVec.ofNat 32 k := by
  unfold wrapped
  rw [broadcastInDim_apply _ bcast_S2048_S2048x1_0 _ (ix2 r 0) (ix1 r) (fun a => by match a with | ⟨0, _⟩ => rfl)]
  show Scalar.select (IntOp.cmpi .slt (v (ix1 r)) 0#32) (v (ix1 r) + n) (v (ix1 r)) = _
  rw [hv]
  exact kept k hk _

/-- The number a small word counts. -/
theorem word_toNat (n : ℕ) (hn : n < 2048) : (BitVec.ofNat 32 n).toInt.toNat = n := by
  rw [BitVec.toInt_eq_toNat_of_lt (by rw [BitVec.toNat_ofNat]; omega), BitVec.toNat_ofNat]
  omega

/-- The gather at `(r, h)`: the operand's row `r` of the block the first word names. -/
theorem gathered (y : FVec Ideal S8x2048x768 .f32) (a b : IVec S2048x1 32) (r : Fin 2048) (h : Fin 768) (e : Fin 8)
    (ha : a (ix2 r 0) = BitVec.ofNat 32 e.val) (hb : b (ix2 r 0) = BitVec.ofNat 32 r.val) :
    Host.gather gather_S8x2048x768_S2048x2_S2048x768_1_01_n_n_01_1_11768 y
      (concatenate S2048x2 1 [⟨S2048x1, a⟩, ⟨S2048x1, b⟩] concatenates_S2048x1_S2048x1_S2048x2_d1) (ix2 r h) = y (ix3 e r h) := by
  have h0 : concatenate S2048x2 1 [⟨S2048x1, a⟩, ⟨S2048x1, b⟩] concatenates_S2048x1_S2048x1_S2048x2_d1 (ix2 r 0)
      = BitVec.ofNat 32 e.val := by
    rw [← ha]
    exact concatenate_pair_apply_left (t := S2048x2) (s₁ := S2048x1) (s₂ := S2048x1) 1 a b _ (ix2 r 0) rfl (ix2 r 0) fun b => by
      match b with
      | ⟨0, _⟩ => rfl
      | ⟨1, _⟩ => rfl
  have h1 : concatenate S2048x2 1 [⟨S2048x1, a⟩, ⟨S2048x1, b⟩] concatenates_S2048x1_S2048x1_S2048x2_d1 (ix2 r 1)
      = BitVec.ofNat 32 r.val := by
    rw [← hb]
    exact concatenate_pair_apply_right (t := S2048x2) (s₁ := S2048x1) (s₂ := S2048x1) 1 a b _ (ix2 r 1) rfl rfl (ix2 r 0) (fun b hb => by
      match b with
      | ⟨0, _⟩ => rfl
      | ⟨1, _⟩ => exact absurd rfl hb) rfl
  generalize concatenate S2048x2 1 [⟨S2048x1, a⟩, ⟨S2048x1, b⟩] concatenates_S2048x1_S2048x1_S2048x2_d1 = idx at h0 h1 ⊢
  unfold Host.gather
  congr 1
  funext ax
  refine Fin.ext ?_
  show GatherDims.start _ _ _ ax + GatherDims.batchCoord _ _ ax + GatherDims.offCoord _ _ ax = _
  rw [GatherDims.batchCoord_eq_zero _ _ _ List.not_mem_nil, Nat.add_zero]
  obtain rfl | rfl | rfl : ax = (0 : Fin 3) ∨ ax = (1 : Fin 3) ∨ ax = (2 : Fin 3) := by
    match ax with
    | ⟨0, _⟩ => exact .inl rfl
    | ⟨1, _⟩ => exact .inr (.inl rfl)
    | ⟨2, _⟩ => exact .inr (.inr rfl)
  · rw [GatherDims.offCoord_eq_zero _ _ _ (fun hm => absurd hm (by decide)), Nat.add_zero]
    unfold GatherDims.start
    rw [dif_pos (by decide)]
    have hs : gather_S8x2048x768_S2048x2_S2048x768_1_01_n_n_01_1_11768.siIdx (ix2 r h) ⟨List.idxOf (0 : Fin 3) gather_S8x2048x768_S2048x2_S2048x768_1_01_n_n_01_1_11768.startIndexMap, List.idxOf_lt_length_iff.2 (by decide)⟩ = ix2 r 0 := by
      funext b; refine Fin.ext ?_
      match b with
      | ⟨0, _⟩ => rfl
      | ⟨1, _⟩ => rfl
    refine (congrArg (fun w : BitVec 32 => min w.toInt.toNat 7) ((congrArg idx hs).trans h0)).trans ?_
    rw [word_toNat _ (by omega)]
    exact Nat.min_eq_left (by omega)
  · rw [GatherDims.offCoord_eq_zero _ _ _ (fun hm => absurd hm (by decide)), Nat.add_zero]
    unfold GatherDims.start
    rw [dif_pos (by decide)]
    have hs : gather_S8x2048x768_S2048x2_S2048x768_1_01_n_n_01_1_11768.siIdx (ix2 r h) ⟨List.idxOf (1 : Fin 3) gather_S8x2048x768_S2048x2_S2048x768_1_01_n_n_01_1_11768.startIndexMap, List.idxOf_lt_length_iff.2 (by decide)⟩ = ix2 r 1 := by
      funext b; refine Fin.ext ?_
      match b with
      | ⟨0, _⟩ => rfl
      | ⟨1, _⟩ => rfl
    refine (congrArg (fun w : BitVec 32 => min w.toInt.toNat 2047) ((congrArg idx hs).trans h1)).trans ?_
    rw [word_toNat _ (by omega)]
    exact Nat.min_eq_left (by omega)
  · unfold GatherDims.start GatherDims.offCoord
    rw [dif_neg (by decide), dif_pos (by decide), Nat.zero_add]
    rfl

/-- A slot's term: the block its words name, times the slot's column of the weights. -/
def slot (off : Fin 2 → ℕ) (hs : S2048x8.Slices off S2048x1) (y : FVec Ideal S8x2048x768 .f32) (ids : IVec S2048x8 32)
    (w : FVec Ideal S2048x8 .f32) : FVec Ideal S2048x768 .f32 :=
  mulf (Host.gather gather_S8x2048x768_S2048x2_S2048x768_1_01_n_n_01_1_11768 y
      (concatenate S2048x2 1 [⟨S2048x1, wrapped (shapeCast _ (extractStridedSlice S2048x1 off ids hs) shapeCasts_S2048x1_S2048) 8#32⟩,
        ⟨S2048x1, wrapped (iotaInDim S2048 32 0) 2048#32⟩] concatenates_S2048x1_S2048x1_S2048x2_d1))
    (broadcastInDim S2048x768 ![0, 1] bcast_S2048x1_S2048x768_0_1 (extractStridedSlice S2048x1 off w hs))

theorem slot_at (i : Fin 8) (hs : S2048x8.Slices ![0, i.val] S2048x1) (y : FVec Ideal S8x2048x768 .f32) (ids : IVec S2048x8 32)
    (w : FVec Ideal S2048x8 .f32) (r : Fin 2048) (h : Fin 768) (e : Fin 8) (he : ids (ix2 r i) = BitVec.ofNat 32 e.val) :
    slot ![0, i.val] hs y ids w (ix2 r h) = y (ix3 e r h) * w (ix2 r i) := by
  have hcol : ∀ {α : Type} (x : S2048x8.Idx → α), extractStridedSlice S2048x1 ![0, i.val] x hs (ix2 r 0) = x (ix2 r i) := fun x =>
    extractStridedSlice_apply _ x hs (ix2 r 0) (ix2 r i) fun a => by
      match a with
      | ⟨0, _⟩ => exact (Nat.zero_add _).symm
      | ⟨1, _⟩ => rfl
  unfold slot
  rw [mulf_apply, gathered y _ _ r h e]
  · rw [broadcastInDim_apply _ bcast_S2048x1_S2048x768_0_1 _ (ix2 r h) (ix2 r (0 : Fin 1)) (fun a => by
      match a with
      | ⟨0, _⟩ => rfl
      | ⟨1, _⟩ => rfl), hcol w]
  · refine wrapped_at _ _ r e.val (by omega) ?_
    rw [shapeCast_apply (s := S2048x1) _ shapeCasts_S2048x1_S2048 (ix1 r) (ix2 r (0 : Fin 1))
      (by rw [Shape.rowMajor_val_two, Shape.rowMajor_val_one]; exact Nat.mul_one r.val), hcol ids, he]
  · exact wrapped_at _ _ r r.val r.isLt rfl

end Cert.ReferenceIdeal.Ops

end

end
-- ==== Proof.RefValue.lean ====
/- The reference's result, read at an index over the extended reals: the eight slots of a row, in the order its softmax
   ranks them, are the experts' outputs times their weights, whose sum is the routed sum over all the experts. -/
module

public import proofs.«01_k».proof.Proof.RefOps

@[expose] public section

set_option maxRecDepth 16384

noncomputable section

open Idealize.ShloMosaic Idealize.ShloMosaic.TcCoe Idealize.ShloMosaic.ValueIdx Idealize.SL.Sem
open scoped BigOperators

namespace Cert.ReferenceIdeal.Ops

open Cert.ReferenceIdeal Cert.ReferenceIdeal.Gen Cert.ReferenceIdeal.Read Cert.Routed

variable (x0 : (⟨S1x2048x768, .f32⟩ : BufTy).Contents (Elt Ideal)) (x1 : (⟨S768x8, .f32⟩ : BufTy).Contents (Elt Ideal))
  (x2 : (⟨S8, .f32⟩ : BufTy).Contents (Elt Ideal)) (x3 : (⟨S8x768x3072, .f32⟩ : BufTy).Contents (Elt Ideal))
  (x4 : (⟨S8x3072, .f32⟩ : BufTy).Contents (Elt Ideal)) (x5 : (⟨S8x3072x768, .f32⟩ : BufTy).Contents (Elt Ideal))
  (x6 : (⟨S8x768, .f32⟩ : BufTy).Contents (Elt Ideal)) (r : Fin 2048)

/-! ## The weights -/

/-- The tokens, read with the leading axis of size one. -/
theorem tokens_at (k : Fin 768) : val_main_v0 (F := Ideal) x0 (ix2 r k) = x0 (ix3 0 r k) := by
  unfold val_main_v0
  exact shapeCast_apply (s := S1x2048x768) x0 _ (ix2 r k) (ix3 0 r k)
    (by rw [Shape.rowMajor_val_three, Shape.rowMajor_val_two]; show (0 * 2048 + r.val) * 768 + k.val = r.val * 768 + k.val; omega)

theorem logits_at (e : Fin 8) : val_main_v4 (F := Ideal) x0 x1 x2 (ix2 r e) = logits x0 x1 x2 r e := by
  rw [val_main_v4_apply, val_main_v1_apply, val_main_v3_apply, val_main_v2_apply]
  refine congr (congrArg HAdd.hAdd (Finset.sum_congr rfl fun k _ => congr (congrArg HMul.hMul ?_) (congrArg x1 ?_))) (congrArg x2 ?_)
  · refine Eq.trans (congrArg _ ?_) (tokens_at x0 r k)
    funext a
    match a with
    | ⟨0, _⟩ => rfl
    | ⟨1, _⟩ => rfl
  · funext a
    match a with
    | ⟨0, _⟩ => rfl
    | ⟨1, _⟩ => rfl
  · funext a
    match a with
    | ⟨0, _⟩ => rfl

theorem top_at : val_main_v7 (F := Ideal) x0 x1 x2 (ix1 r) = top (logits x0 x1 x2 r) := by
  rw [val_main_v7_apply, val_main_v6_apply, val_main_cst_0_apply]
  have h5 : val_main_v5 (F := Ideal) x0 x1 x2 (ix1 r) = top (logits x0 x1 x2 r) :=
    (row_top _ r).trans (congrArg top (funext fun e => logits_at x0 x1 x2 r e))
  rw [h5]
  show max (Ideal.ofBits .f32 0xFF800000#32) _ = _
  rw [ofBits_bot]
  exact max_bot_left _

theorem rise_at (e : Fin 8) : val_main_v11 (F := Ideal) x0 x1 x2 (ix2 r e) = rise (logits x0 x1 x2 r) e := by
  rw [val_main_v11_apply, val_main_v10_apply, val_main_v9_apply, val_main_v8_apply, logits_at]
  have h7 : val_main_v7 (F := Ideal) x0 x1 x2 (idx_main_v8 (idx_main_v9 (ix2 r e))) = top (logits x0 x1 x2 r) := by
    refine Eq.trans (congrArg _ ?_) (top_at x0 x1 x2 r)
    funext a
    match a with
    | ⟨0, _⟩ => rfl
  rw [h7]
  rfl

theorem soft_at (e : Fin 8) : val_main_v15 (F := Ideal) x0 x1 x2 (ix2 r e) = soft (logits x0 x1 x2 r) e := by
  rw [val_main_v15_apply, val_main_v14_apply, val_main_v13_apply, val_main_v12_apply, rise_at, val_main_cst_1_apply]
  unfold soft
  refine congrArg (Ideal.div _) ?_
  rw [show FloatOps.ofBits (F := Ideal) .f32 0x00000000#32 = 0 from Ideal.ofBits_zero_f32, zero_add]
  refine Finset.sum_congr rfl fun k _ => Eq.trans (congrArg _ ?_) (rise_at x0 x1 x2 r k)
  funext a
  match a with
  | ⟨0, _⟩ => rfl
  | ⟨1, _⟩ => rfl

/-- The order in which a row's softmax ranks the experts. -/
def order : Equiv.Perm (Fin 8) := ranking (val_main_v15 (F := Ideal) x0 x1 x2) r

theorem value_at (i : Fin 8) : val_main_values (F := Ideal) x0 x1 x2 (ix2 r i) = soft (logits x0 x1 x2 r) (order x0 x1 x2 r i) :=
  (ranked_value _ r i).trans (soft_at x0 x1 x2 r _)

theorem expert_at (i : Fin 8) : val_main_indices (F := Ideal) x0 x1 x2 (ix2 r i) = BitVec.ofNat 32 (order x0 x1 x2 r i).val :=
  ranked_lane _ r i

theorem weight_at (i : Fin 8) : val_main_v19 (F := Ideal) x0 x1 x2 (ix2 r i) = weight (logits x0 x1 x2 r) (order x0 x1 x2 r i) := by
  rw [val_main_v19_apply, val_main_v18_apply, val_main_v17_apply, val_main_v16_apply, value_at, val_main_cst_2_apply]
  unfold weight
  refine congrArg (Ideal.div _) ?_
  rw [show FloatOps.ofBits (F := Ideal) .f32 0x00000000#32 = 0 from Ideal.ofBits_zero_f32, zero_add,
    ← Equiv.sum_comp (order x0 x1 x2 r) (soft (logits x0 x1 x2 r))]
  refine Finset.sum_congr rfl fun k _ => Eq.trans (congrArg (val_main_values (F := Ideal) x0 x1 x2) ?_) (value_at x0 x1 x2 r k)
  funext a
  match a with
  | ⟨0, _⟩ => rfl
  | ⟨1, _⟩ => rfl

/-! ## The experts -/

theorem preact_at (e : Fin 8) (j : Fin 3072) : val_main_v24 (F := Ideal) x0 x3 x4 (ix3 e r j) = preact x0 x3 x4 r e j := by
  rw [val_main_v24_apply, val_main_v21_apply, val_main_v20_apply, val_main_v23_apply, val_main_v22_apply]
  refine congr (congrArg HAdd.hAdd (Finset.sum_congr rfl fun k _ => (mul_comm _ _).trans (congr (congrArg HMul.hMul ?_) (congrArg x3 ?_))))
    (congrArg x4 ?_)
  · refine Eq.trans (congrArg _ ?_) (tokens_at x0 r k)
    funext a
    match a with
    | ⟨0, _⟩ => rfl
    | ⟨1, _⟩ => rfl
  · funext a
    match a with
    | ⟨0, _⟩ => rfl
    | ⟨1, _⟩ => rfl
    | ⟨2, _⟩ => rfl
  · funext a
    match a with
    | ⟨0, _⟩ => rfl
    | ⟨1, _⟩ => rfl

theorem act_at (e : Fin 8) (j : Fin 3072) :
    val_main_v31 (F := Ideal) x0 x3 x4 (ix3 e r j) = act half 1 rsq (preact x0 x3 x4 r e j) := by
  rw [← act_erfc, ← preact_at]
  rfl

theorem block_at (e : Fin 8) (h : Fin 768) :
    val_main_v35 (F := Ideal) x0 x3 x4 x5 x6 (ix3 e r h) = (∑ j, term x0 x3 x4 x5 r h e j) + bias x6 h e := by
  rw [val_main_v35_apply, val_main_v32_apply, val_main_v34_apply, val_main_v33_apply]
  refine congr (congrArg HAdd.hAdd (Finset.sum_congr rfl fun k _ => congr (congrArg HMul.hMul ?_) (congrArg x5 ?_))) (congrArg x6 ?_)
  · refine Eq.trans (congrArg _ ?_) (act_at x0 x3 x4 r e k)
    funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl
  · funext a
    match a with
    | ⟨0, _⟩ => rfl
    | ⟨1, _⟩ => rfl

/-! ## The eight slots -/

/-- A slot at `(r, h)`: the ranked expert's output times its weight. -/
theorem ranked_slot (h : Fin 768) (i : Fin 8) (hs : S2048x8.Slices ![0, i.val] S2048x1) :
    slot ![0, i.val] hs (val_main_v35 (F := Ideal) x0 x3 x4 x5 x6) (val_main_indices (F := Ideal) x0 x1 x2)
        (val_main_v19 (F := Ideal) x0 x1 x2) (ix2 r h)
      = ((∑ j, term x0 x3 x4 x5 r h (order x0 x1 x2 r i) j) + bias x6 h (order x0 x1 x2 r i))
        * weight (logits x0 x1 x2 r) (order x0 x1 x2 r i) := by
  rw [slot_at i hs _ _ _ r h _ (expert_at x0 x1 x2 r i), block_at, weight_at]

/-- The reference's result at `(r, h)` is the routed sum over every expert. -/
theorem result_at (h : Fin 768) :
    val_main_v197 (F := Ideal) x0 x1 x2 x3 x4 x5 x6 (ix2 r h) = partialAt x0 x1 x2 x3 x4 x5 x6 r h 24 := by
  rw [partialAt, upTo_all _ _ _ (order x0 x1 x2 r), Fin.sum_univ_eight]
  have s0 : val_main_v56 (F := Ideal) x0 x1 x2 x3 x4 x5 x6 (ix2 r h) = _ := ranked_slot x0 x1 x2 x3 x4 x5 x6 r h 0 slices_S2048x8_S2048x1_0_0
  have s1 : val_main_v76 (F := Ideal) x0 x1 x2 x3 x4 x5 x6 (ix2 r h) = _ := ranked_slot x0 x1 x2 x3 x4 x5 x6 r h 1 slices_S2048x8_S2048x1_0_1
  have s2 : val_main_v96 (F := Ideal) x0 x1 x2 x3 x4 x5 x6 (ix2 r h) = _ := ranked_slot x0 x1 x2 x3 x4 x5 x6 r h 2 slices_S2048x8_S2048x1_0_2
  have s3 : val_main_v116 (F := Ideal) x0 x1 x2 x3 x4 x5 x6 (ix2 r h) = _ := ranked_slot x0 x1 x2 x3 x4 x5 x6 r h 3 slices_S2048x8_S2048x1_0_3
  have s4 : val_main_v136 (F := Ideal) x0 x1 x2 x3 x4 x5 x6 (ix2 r h) = _ := ranked_slot x0 x1 x2 x3 x4 x5 x6 r h 4 slices_S2048x8_S2048x1_0_4
  have s5 : val_main_v156 (F := Ideal) x0 x1 x2 x3 x4 x5 x6 (ix2 r h) = _ := ranked_slot x0 x1 x2 x3 x4 x5 x6 r h 5 slices_S2048x8_S2048x1_0_5
  have s6 : val_main_v176 (F := Ideal) x0 x1 x2 x3 x4 x5 x6 (ix2 r h) = _ := ranked_slot x0 x1 x2 x3 x4 x5 x6 r h 6 slices_S2048x8_S2048x1_0_6
  have s7 : val_main_v196 (F := Ideal) x0 x1 x2 x3 x4 x5 x6 (ix2 r h) = _ := ranked_slot x0 x1 x2 x3 x4 x5 x6 r h 7 slices_S2048x8_S2048x1_0_7
  rw [val_main_v197_apply, val_main_v177_apply, val_main_v157_apply, val_main_v137_apply, val_main_v117_apply, val_main_v97_apply, val_main_v77_apply, val_main_v57_apply,
    s0, s1, s2, s3, s4, s5, s6, s7,
    val_main_v37_apply, val_main_cst_5_apply, show FloatOps.ofBits (F := Ideal) .f32 0x00000000#32 = 0 from Ideal.ofBits_zero_f32]
  simp only [Ideal.addf_def, zero_add]

end Cert.ReferenceIdeal.Ops

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Fold
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.ValueIdx

/-- The two result arrays agree when the arguments do. -/
theorem results_agree (m : (ℓ : Loc Cert.KernelIdeal.nD Cert.KernelIdeal.τ Cert.KernelIdeal.sig) → Buf (Elt Ideal) ℓ)
    (c : Dev Cert.KernelIdeal.nD) :
    Cert.ReferenceIdeal.Read.val_main_v197 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.Value.G7 m c := by
  funext i
  obtain ⟨r, h, rfl⟩ : ∃ (r : Fin 2048) (h : Fin 768), i = ix2 r h := ⟨i 0, i 1, eq_ix2 i⟩
  exact (Cert.ReferenceIdeal.Ops.result_at _ _ _ _ _ _ _ r h).trans (Cert.KernelIdeal.Fold.result_at m c r h).symm

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

theorem equal_results : Cert.algebraic_KernelIdeal_ReferenceIdeal := fun m ρ m' ρ' _ hag =>
  ⟨fun c => Cert.KernelIdeal.Value.G7 m c, Cert.KernelIdeal.Value.run m ρ,
    (θ_run Cert.ReferenceIdeal.defs _ _).mono (fun r h c => ⟨by
      obtain ⟨h0, h1, h2, h3, h4, h5, h6⟩ := hag c
      refine ((h c).1.trans (Cert.ReferenceIdeal.Read.val_main_v197_eq _)).trans ?_
      simp only [StableHlo.launchContents_devRef, h0, h1, h2, h3, h4, h5, h6]
      exact results_agree m c, (h c).2⟩)
      (Cert.ReferenceIdeal.Value.run m' ρ')⟩

theorem claim : Cert.Claim := ⟨Cert.Kernel.Gen.facts, Cert.KernelIdeal.Gen.facts, Cert.ReferenceIdeal.Gen.facts,
  frame_kernel, frame_ideal, frame_reference, trivial, equal_results⟩

end Cert.Proof

end
